-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x4 : Shape := ⟨3, ![4, 3072, 4]⟩
abbrev S4x32x4 : Shape := ⟨3, ![4, 32, 4]⟩
abbrev S3072x4 : Shape := ⟨2, ![3072, 4]⟩
abbrev S4x3072x1 : Shape := ⟨3, ![4, 3072, 1]⟩
abbrev S4x3072 : Shape := ⟨2, ![4, 3072]⟩
abbrev S4x4x3072 : Shape := ⟨3, ![4, 4, 3072]⟩
abbrev S4x1x3072 : Shape := ⟨3, ![4, 1, 3072]⟩
abbrev S4x384x8 : Shape := ⟨3, ![4, 384, 8]⟩
abbrev S_ : Shape := ⟨0, ![]⟩
abbrev S4x384 : Shape := ⟨2, ![4, 384]⟩
abbrev S4 : Shape := ⟨1, ![4]⟩
abbrev S4x1x128 : Shape := ⟨3, ![4, 1, 128]⟩
abbrev S4x1x1 : Shape := ⟨3, ![4, 1, 1]⟩
abbrev S1x4x3072 : Shape := ⟨3, ![1, 4, 3072]⟩
abbrev S1x1x3072 : Shape := ⟨3, ![1, 1, 3072]⟩
abbrev S1x32x4 : Shape := ⟨3, ![1, 32, 4]⟩
abbrev S1x1x128 : Shape := ⟨3, ![1, 1, 128]⟩
abbrev S8x3072 : Shape := ⟨2, ![8, 3072]⟩
abbrev S32x3072 : Shape := ⟨2, ![32, 3072]⟩
abbrev S3072x128 : Shape := ⟨2, ![3072, 128]⟩
abbrev S1x3072 : Shape := ⟨2, ![1, 3072]⟩
abbrev S1x128 : Shape := ⟨2, ![1, 128]⟩
abbrev S128x128 : Shape := ⟨2, ![128, 128]⟩
abbrev S32x4 : Shape := ⟨2, ![32, 4]⟩
abbrev S8x4 : Shape := ⟨2, ![8, 4]⟩
abbrev S8x1 : Shape := ⟨2, ![8, 1]⟩
abbrev S8x128 : Shape := ⟨2, ![8, 128]⟩
abbrev S3072 : Shape := ⟨1, ![3072]⟩
abbrev S1 : Shape := ⟨1, ![1]⟩
abbrev S1x1x1 : Shape := ⟨3, ![1, 1, 1]⟩
abbrev S1x1 : Shape := ⟨2, ![1, 1]⟩
abbrev S1x8x3072 : Shape := ⟨3, ![1, 8, 3072]⟩

abbrev nBuf : Space → Nat
  | .hbm => 25
  | .vmem => 24
  | .smem => 2
  | _ => 0

abbrev bufTy : (tb : Table) → Fin (tcTables nBuf tb) → BufTy
  | .hbm, ⟨0, _⟩ => ⟨S4x3072x4, .f32⟩
  | .hbm, ⟨1, _⟩ => ⟨S4x32x4, .f32⟩
  | .hbm, ⟨2, _⟩ => ⟨S3072x4, .f32⟩
  | .hbm, ⟨3, _⟩ => ⟨S4x3072x4, .i1⟩
  | .hbm, ⟨4, _⟩ => ⟨S4x3072x1, .i1⟩
  | .hbm, ⟨5, _⟩ => ⟨S4x3072, .i1⟩
  | .hbm, ⟨6, _⟩ => ⟨S4x3072, .f32⟩
  | .hbm, ⟨7, _⟩ => ⟨S4x4x3072, .f32⟩
  | .hbm, ⟨8, _⟩ => ⟨S4x3072, .f32⟩
  | .hbm, ⟨9, _⟩ => ⟨S4x1x3072, .f32⟩
  | .hbm, ⟨10, _⟩ => ⟨S4x384x8, .i1⟩
  | .hbm, ⟨11, _⟩ => ⟨S_, .i1⟩
  | .hbm, ⟨12, _⟩ => ⟨S4x384, .i1⟩
  | .hbm, ⟨13, _⟩ => ⟨S4x384, .i32⟩
  | .hbm, ⟨14, _⟩ => ⟨S_, .i32⟩
  | .hbm, ⟨15, _⟩ => ⟨S4, .i32⟩
  | .hbm, ⟨16, _⟩ => ⟨S4x384, .i1⟩
  | .hbm, ⟨17, _⟩ => ⟨S4x384, .i32⟩
  | .hbm, ⟨18, _⟩ => ⟨S4x384, .i1⟩
  | .hbm, ⟨19, _⟩ => ⟨S4x384, .i32⟩
  | .hbm, ⟨20, _⟩ => ⟨S4x1x128, .f32⟩
  | .hbm, ⟨21, _⟩ => ⟨S4x1x1, .f32⟩
  | .hbm, ⟨22, _⟩ => ⟨S4, .f32⟩
  | .hbm, ⟨23, _⟩ => ⟨S_, .f32⟩
  | .hbm, ⟨24, _⟩ => ⟨S_, .f32⟩
  | .local _ .vmem, ⟨0, _⟩ => ⟨S1x4x3072, .f32⟩
  | .local _ .vmem, ⟨1, _⟩ => ⟨S1x4x3072, .f32⟩
  | .local _ .vmem, ⟨2, _⟩ => ⟨S4x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x32x4, .f32⟩
  | .local _ .vmem, ⟨6, _⟩ => ⟨S1x32x4, .f32⟩
  | .local _ .vmem, ⟨7, _⟩ => ⟨S1x1x128, .f32⟩
  | .local _ .vmem, ⟨8, _⟩ => ⟨S1x1x128, .f32⟩
  | .local _ .vmem, ⟨9, _⟩ => ⟨S8x3072, .f32⟩
  | .local _ .vmem, ⟨10, _⟩ => ⟨S8x3072, .f32⟩
  | .local _ .vmem, ⟨11, _⟩ => ⟨S8x3072, .f32⟩
  | .local _ .vmem, ⟨12, _⟩ => ⟨S8x3072, .f32⟩
  | .local _ .vmem, ⟨13, _⟩ => ⟨S8x3072, .f32⟩
  | .local _ .vmem, ⟨14, _⟩ => ⟨S8x3072, .f32⟩
  | .local _ .vmem, ⟨15, _⟩ => ⟨S8x3072, .f32⟩
  | .local _ .vmem, ⟨16, _⟩ => ⟨S32x3072, .f32⟩
  | .local _ .vmem, ⟨17, _⟩ => ⟨S8x3072, .f32⟩
  | .local _ .vmem, ⟨18, _⟩ => ⟨S8x3072, .f32⟩
  | .local _ .vmem, ⟨19, _⟩ => ⟨S3072x128, .f32⟩
  | .local _ .vmem, ⟨20, _⟩ => ⟨S3072x128, .f32⟩
  | .local _ .vmem, ⟨21, _⟩ => ⟨S3072x128, .f32⟩
  | .local _ .vmem, ⟨22, _⟩ => ⟨S3072x128, .f32⟩
  | .local _ .vmem, ⟨23, _⟩ => ⟨S3072x128, .f32⟩
  | .local _ .smem, ⟨0, _⟩ => ⟨S4x384, .i32⟩
  | .local _ .smem, ⟨1, _⟩ => ⟨S4, .i32⟩
  | _, _ => ⟨S4x3072x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c : Ref sig .tc := ⟨.hbm, 11, rfl⟩
abbrev main_call0_v7 : Ref sig .tc := ⟨.hbm, 12, rfl⟩
abbrev main_call0_v8 : Ref sig .tc := ⟨.hbm, 13, rfl⟩
abbrev main_call0_c_0 : Ref sig .tc := ⟨.hbm, 14, rfl⟩
abbrev main_call0_v9 : Ref sig .tc := ⟨.hbm, 15, rfl⟩
abbrev main_call0_v10 : Ref sig .tc := ⟨.hbm, 16, rfl⟩
abbrev main_call0_call0_v0 : Ref sig .tc := ⟨.hbm, 17, rfl⟩
abbrev main_call0_call0_v1_0 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_v0 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch13 : Ref sig .tc := ⟨.vmem, 22, rfl⟩
abbrev cc0_scratch14 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 1 → Nat :=
  let arg0 : BitVec 32 := BitVec.ofNat 32 (i 0).val
  let v1476 : Index := Scalar.indexCast arg0
  ![v1476.toNat]
@[reducible] def k0_t1_loop (v1477 : BitVec 32) : Scf.Loop 32 :=
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let c1_i32_435 : BitVec 32 := 1#32
  ⟨c0_i32_432, v1500, c1_i32_435⟩

def k0_off2 (i : grid0.Coords) (v1477 : BitVec 32) (k0_t1 : Fin (k0_t1_loop v1477).trips) : Fin 2 → Nat :=
  let arg0 : BitVec 32 := BitVec.ofNat 32 (i 0).val
  let v1531 : Index := Scalar.indexCast arg0
  let c0_i32_432 : BitVec 32 := 0#32
  let c1_i32_435 : BitVec 32 := 1#32
  let arg23 : BitVec 32 := Scf.iv c0_i32_432 c1_i32_435 k0_t1
  let c4_i32_454 : BitVec 32 := 4#32
  let v1529 : BitVec 32 := Scalar.muli arg23 c4_i32_454
  let c0_i32_455 : BitVec 32 := 0#32
  let v1530 : BitVec 32 := Scalar.addi v1529 c0_i32_455
  let v1532 : Index := Scalar.indexCast v1530
  ![v1531.toNat, v1532.toNat]
def k0_mult1 (v1533 : BitVec 32) : BitVec 32 :=
  let c8_i32_456 : BitVec 32 := 8#32
  let v1534 : BitVec 32 := Scalar.muli v1533 c8_i32_456
  v1534

def k0_off3 (v1533 : BitVec 32) : Fin 2 → Nat :=
  let c8_i32_456 : BitVec 32 := 8#32
  let v1534 : BitVec 32 := Scalar.muli v1533 c8_i32_456
  let v1535 : BitVec 32 := v1534
  let v1536 : Index := Scalar.indexCast v1535
  let c0_457 : Index := 0#32
  ![v1536.toNat, 0]

def k0_chk2 (v1533 : BitVec 32) : Prop :=
  (8 ∣ (k0_mult1 v1533).toNat) ∧
  (∀ a, (k0_off3 v1533) a + S8x128.size a ≤ S3072x128.size a)
theorem k0_mult1_dvd : ∀ (v1533 : BitVec 32) (k0_hw2 : k0_chk2 v1533), 8 ∣ (k0_mult1 v1533).toNat := fun v1533 k0_hw2 => k0_hw2.1
theorem k0_off3_inb : ∀ (v1533 : BitVec 32) (k0_hw2 : k0_chk2 v1533), ∀ a, (k0_off3 v1533) a + S8x128.size a ≤ S3072x128.size a := fun v1533 k0_hw2 => k0_hw2.2

def k0_off4 (i : grid0.Coords) (v1477 : BitVec 32) (k0_t1 : Fin (k0_t1_loop v1477).trips) : Fin 2 → Nat :=
  let arg0 : BitVec 32 := BitVec.ofNat 32 (i 0).val
  let v1589 : Index := Scalar.indexCast arg0
  let c0_i32_432 : BitVec 32 := 0#32
  let c1_i32_435 : BitVec 32 := 1#32
  let arg23 : BitVec 32 := Scf.iv c0_i32_432 c1_i32_435 k0_t1
  let c4_i32_486 : BitVec 32 := 4#32
  let v1587 : BitVec 32 := Scalar.muli arg23 c4_i32_486
  let c1_i32_487 : BitVec 32 := 1#32
  let v1588 : BitVec 32 := Scalar.addi v1587 c1_i32_487
  let v1590 : Index := Scalar.indexCast v1588
  ![v1589.toNat, v1590.toNat]
def k0_mult2 (v1591 : BitVec 32) : BitVec 32 :=
  let c8_i32_488 : BitVec 32 := 8#32
  let v1592 : BitVec 32 := Scalar.muli v1591 c8_i32_488
  v1592

def k0_off5 (v1591 : BitVec 32) : Fin 2 → Nat :=
  let c8_i32_488 : BitVec 32 := 8#32
  let v1592 : BitVec 32 := Scalar.muli v1591 c8_i32_488
  let v1593 : BitVec 32 := v1592
  let v1594 : Index := Scalar.indexCast v1593
  let c0_489 : Index := 0#32
  ![v1594.toNat, 0]

def k0_chk3 (v1591 : BitVec 32) : Prop :=
  (8 ∣ (k0_mult2 v1591).toNat) ∧
  (∀ a, (k0_off5 v1591) a + S8x128.size a ≤ S3072x128.size a)
theorem k0_mult2_dvd : ∀ (v1591 : BitVec 32) (k0_hw3 : k0_chk3 v1591), 8 ∣ (k0_mult2 v1591).toNat := fun v1591 k0_hw3 => k0_hw3.1
theorem k0_off5_inb : ∀ (v1591 : BitVec 32) (k0_hw3 : k0_chk3 v1591), ∀ a, (k0_off5 v1591) a + S8x128.size a ≤ S3072x128.size a := fun v1591 k0_hw3 => k0_hw3.2

def k0_off6 (i : grid0.Coords) (v1477 : BitVec 32) (k0_t1 : Fin (k0_t1_loop v1477).trips) : Fin 2 → Nat :=
  let arg0 : BitVec 32 := BitVec.ofNat 32 (i 0).val
  let v1647 : Index := Scalar.indexCast arg0
  let c0_i32_432 : BitVec 32 := 0#32
  let c1_i32_435 : BitVec 32 := 1#32
  let arg23 : BitVec 32 := Scf.iv c0_i32_432 c1_i32_435 k0_t1
  let c4_i32_518 : BitVec 32 := 4#32
  let v1645 : BitVec 32 := Scalar.muli arg23 c4_i32_518
  let c2_i32 : BitVec 32 := 2#32
  let v1646 : BitVec 32 := Scalar.addi v1645 c2_i32
  let v1648 : Index := Scalar.indexCast v1646
  ![v1647.toNat, v1648.toNat]
def k0_mult3 (v1649 : BitVec 32) : BitVec 32 :=
  let c8_i32_519 : BitVec 32 := 8#32
  let v1650 : BitVec 32 := Scalar.muli v1649 c8_i32_519
  v1650

def k0_off7 (v1649 : BitVec 32) : Fin 2 → Nat :=
  let c8_i32_519 : BitVec 32 := 8#32
  let v1650 : BitVec 32 := Scalar.muli v1649 c8_i32_519
  let v1651 : BitVec 32 := v1650
  let v1652 : Index := Scalar.indexCast v1651
  let c0_520 : Index := 0#32
  ![v1652.toNat, 0]

def k0_chk4 (v1649 : BitVec 32) : Prop :=
  (8 ∣ (k0_mult3 v1649).toNat) ∧
  (∀ a, (k0_off7 v1649) a + S8x128.size a ≤ S3072x128.size a)
theorem k0_mult3_dvd : ∀ (v1649 : BitVec 32) (k0_hw4 : k0_chk4 v1649), 8 ∣ (k0_mult3 v1649).toNat := fun v1649 k0_hw4 => k0_hw4.1
theorem k0_off7_inb : ∀ (v1649 : BitVec 32) (k0_hw4 : k0_chk4 v1649), ∀ a, (k0_off7 v1649) a + S8x128.size a ≤ S3072x128.size a := fun v1649 k0_hw4 => k0_hw4.2

def k0_off8 (i : grid0.Coords) (v1477 : BitVec 32) (k0_t1 : Fin (k0_t1_loop v1477).trips) : Fin 2 → Nat :=
  let arg0 : BitVec 32 := BitVec.ofNat 32 (i 0).val
  let v1705 : Index := Scalar.indexCast arg0
  let c0_i32_432 : BitVec 32 := 0#32
  let c1_i32_435 : BitVec 32 := 1#32
  let arg23 : BitVec 32 := Scf.iv c0_i32_432 c1_i32_435 k0_t1
  let c4_i32_549 : BitVec 32 := 4#32
  let v1703 : BitVec 32 := Scalar.muli arg23 c4_i32_549
  let c3_i32_550 : BitVec 32 := 3#32
  let v1704 : BitVec 32 := Scalar.addi v1703 c3_i32_550
  let v1706 : Index := Scalar.indexCast v1704
  ![v1705.toNat, v1706.toNat]
def k0_mult4 (v1707 : BitVec 32) : BitVec 32 :=
  let c8_i32_551 : BitVec 32 := 8#32
  let v1708 : BitVec 32 := Scalar.muli v1707 c8_i32_551
  v1708

def k0_off9 (v1707 : BitVec 32) : Fin 2 → Nat :=
  let c8_i32_551 : BitVec 32 := 8#32
  let v1708 : BitVec 32 := Scalar.muli v1707 c8_i32_551
  let v1709 : BitVec 32 := v1708
  let v1710 : Index := Scalar.indexCast v1709
  let c0_552 : Index := 0#32
  ![v1710.toNat, 0]

def k0_chk5 (v1707 : BitVec 32) : Prop :=
  (8 ∣ (k0_mult4 v1707).toNat) ∧
  (∀ a, (k0_off9 v1707) a + S8x128.size a ≤ S3072x128.size a)
theorem k0_mult4_dvd : ∀ (v1707 : BitVec 32) (k0_hw5 : k0_chk5 v1707), 8 ∣ (k0_mult4 v1707).toNat := fun v1707 k0_hw5 => k0_hw5.1
theorem k0_off9_inb : ∀ (v1707 : BitVec 32) (k0_hw5 : k0_chk5 v1707), ∀ a, (k0_off9 v1707) a + S8x128.size a ≤ S3072x128.size a := fun v1707 k0_hw5 => k0_hw5.2

@[reducible] def k0_t2_loop (v1477 : BitVec 32) : Scf.Loop 32 :=
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let v1497 : BitVec 32 := Scalar.addi c0_i32_432 v1496
  let c1_i32_436 : BitVec 32 := 1#32
  ⟨v1500, v1497, c1_i32_436⟩
def k0_off10 (i : grid0.Coords) (v1477 : BitVec 32) (k0_t2 : Fin (k0_t2_loop v1477).trips) : Fin 2 → Nat :=
  let arg0 : BitVec 32 := BitVec.ofNat 32 (i 0).val
  let v1531 : Index := Scalar.indexCast arg0
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let c1_i32_436 : BitVec 32 := 1#32
  let arg23 : BitVec 32 := Scf.iv v1500 c1_i32_436 k0_t2
  let c4_i32_454 : BitVec 32 := 4#32
  let v1529 : BitVec 32 := Scalar.muli arg23 c4_i32_454
  let c0_i32_455 : BitVec 32 := 0#32
  let v1530 : BitVec 32 := Scalar.addi v1529 c0_i32_455
  let v1532 : Index := Scalar.indexCast v1530
  ![v1531.toNat, v1532.toNat]
def k0_mult5 (v1533 : BitVec 32) : BitVec 32 :=
  let c8_i32_456 : BitVec 32 := 8#32
  let v1534 : BitVec 32 := Scalar.muli v1533 c8_i32_456
  v1534

def k0_off11 (v1533 : BitVec 32) : Fin 2 → Nat :=
  let c8_i32_456 : BitVec 32 := 8#32
  let v1534 : BitVec 32 := Scalar.muli v1533 c8_i32_456
  let v1535 : BitVec 32 := v1534
  let v1536 : Index := Scalar.indexCast v1535
  let c0_457 : Index := 0#32
  ![v1536.toNat, 0]

def k0_chk6 (v1533 : BitVec 32) : Prop :=
  (8 ∣ (k0_mult5 v1533).toNat) ∧
  (∀ a, (k0_off11 v1533) a + S8x128.size a ≤ S3072x128.size a)
theorem k0_mult5_dvd : ∀ (v1533 : BitVec 32) (k0_hw6 : k0_chk6 v1533), 8 ∣ (k0_mult5 v1533).toNat := fun v1533 k0_hw6 => k0_hw6.1
theorem k0_off11_inb : ∀ (v1533 : BitVec 32) (k0_hw6 : k0_chk6 v1533), ∀ a, (k0_off11 v1533) a + S8x128.size a ≤ S3072x128.size a := fun v1533 k0_hw6 => k0_hw6.2

def k0_off12 (i : grid0.Coords) (v1477 : BitVec 32) (k0_t2 : Fin (k0_t2_loop v1477).trips) : Fin 2 → Nat :=
  let arg0 : BitVec 32 := BitVec.ofNat 32 (i 0).val
  let v1589 : Index := Scalar.indexCast arg0
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let c1_i32_436 : BitVec 32 := 1#32
  let arg23 : BitVec 32 := Scf.iv v1500 c1_i32_436 k0_t2
  let c4_i32_486 : BitVec 32 := 4#32
  let v1587 : BitVec 32 := Scalar.muli arg23 c4_i32_486
  let c1_i32_487 : BitVec 32 := 1#32
  let v1588 : BitVec 32 := Scalar.addi v1587 c1_i32_487
  let v1590 : Index := Scalar.indexCast v1588
  ![v1589.toNat, v1590.toNat]
def k0_mult6 (v1591 : BitVec 32) : BitVec 32 :=
  let c8_i32_488 : BitVec 32 := 8#32
  let v1592 : BitVec 32 := Scalar.muli v1591 c8_i32_488
  v1592

def k0_off13 (v1591 : BitVec 32) : Fin 2 → Nat :=
  let c8_i32_488 : BitVec 32 := 8#32
  let v1592 : BitVec 32 := Scalar.muli v1591 c8_i32_488
  let v1593 : BitVec 32 := v1592
  let v1594 : Index := Scalar.indexCast v1593
  let c0_489 : Index := 0#32
  ![v1594.toNat, 0]

def k0_chk7 (v1591 : BitVec 32) : Prop :=
  (8 ∣ (k0_mult6 v1591).toNat) ∧
  (∀ a, (k0_off13 v1591) a + S8x128.size a ≤ S3072x128.size a)
theorem k0_mult6_dvd : ∀ (v1591 : BitVec 32) (k0_hw7 : k0_chk7 v1591), 8 ∣ (k0_mult6 v1591).toNat := fun v1591 k0_hw7 => k0_hw7.1
theorem k0_off13_inb : ∀ (v1591 : BitVec 32) (k0_hw7 : k0_chk7 v1591), ∀ a, (k0_off13 v1591) a + S8x128.size a ≤ S3072x128.size a := fun v1591 k0_hw7 => k0_hw7.2

def k0_off14 (i : grid0.Coords) (v1477 : BitVec 32) (k0_t2 : Fin (k0_t2_loop v1477).trips) : Fin 2 → Nat :=
  let arg0 : BitVec 32 := BitVec.ofNat 32 (i 0).val
  let v1647 : Index := Scalar.indexCast arg0
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let c1_i32_436 : BitVec 32 := 1#32
  let arg23 : BitVec 32 := Scf.iv v1500 c1_i32_436 k0_t2
  let c4_i32_518 : BitVec 32 := 4#32
  let v1645 : BitVec 32 := Scalar.muli arg23 c4_i32_518
  let c2_i32 : BitVec 32 := 2#32
  let v1646 : BitVec 32 := Scalar.addi v1645 c2_i32
  let v1648 : Index := Scalar.indexCast v1646
  ![v1647.toNat, v1648.toNat]
def k0_mult7 (v1649 : BitVec 32) : BitVec 32 :=
  let c8_i32_519 : BitVec 32 := 8#32
  let v1650 : BitVec 32 := Scalar.muli v1649 c8_i32_519
  v1650

def k0_off15 (v1649 : BitVec 32) : Fin 2 → Nat :=
  let c8_i32_519 : BitVec 32 := 8#32
  let v1650 : BitVec 32 := Scalar.muli v1649 c8_i32_519
  let v1651 : BitVec 32 := v1650
  let v1652 : Index := Scalar.indexCast v1651
  let c0_520 : Index := 0#32
  ![v1652.toNat, 0]

def k0_chk8 (v1649 : BitVec 32) : Prop :=
  (8 ∣ (k0_mult7 v1649).toNat) ∧
  (∀ a, (k0_off15 v1649) a + S8x128.size a ≤ S3072x128.size a)
theorem k0_mult7_dvd : ∀ (v1649 : BitVec 32) (k0_hw8 : k0_chk8 v1649), 8 ∣ (k0_mult7 v1649).toNat := fun v1649 k0_hw8 => k0_hw8.1
theorem k0_off15_inb : ∀ (v1649 : BitVec 32) (k0_hw8 : k0_chk8 v1649), ∀ a, (k0_off15 v1649) a + S8x128.size a ≤ S3072x128.size a := fun v1649 k0_hw8 => k0_hw8.2

def k0_off16 (i : grid0.Coords) (v1477 : BitVec 32) (k0_t2 : Fin (k0_t2_loop v1477).trips) : Fin 2 → Nat :=
  let arg0 : BitVec 32 := BitVec.ofNat 32 (i 0).val
  let v1705 : Index := Scalar.indexCast arg0
  let c0_i32_432 : BitVec 32 := 0#32
  let c3_i32 : BitVec 32 := 3#32
  let v1478 : BitVec 32 := Scalar.addi v1477 c3_i32
  let c0_i32_427 : BitVec 32 := 0#32
  let v1480 : BitVec 1 := Scalar.cmpi .sgt v1478 c0_i32_427
  let v1481 : BitVec 32 := Scalar.extui v1480
  let c0_i32_428 : BitVec 32 := 0#32
  let v1482 : BitVec 1 := Scalar.cmpi .slt v1478 c0_i32_428
  let v1483 : BitVec 32 := Scalar.extui v1482
  let v1484 : BitVec 32 := Scalar.subi v1481 v1483
  let c4_i32 : BitVec 32 := 4#32
  let c0_i32_429 : BitVec 32 := 0#32
  let v1485 : BitVec 1 := Scalar.cmpi .sgt c4_i32 c0_i32_429
  let v1486 : BitVec 32 := Scalar.extui v1485
  let c0_i32_430 : BitVec 32 := 0#32
  let v1487 : BitVec 1 := Scalar.cmpi .slt c4_i32 c0_i32_430
  let v1488 : BitVec 32 := Scalar.extui v1487
  let v1489 : BitVec 32 := Scalar.subi v1486 v1488
  let v1490 : BitVec 1 := Scalar.cmpi .ne v1484 v1489
  let v1491 : BitVec 32 := Scalar.remsi v1478 c4_i32
  let c0_i32_431 : BitVec 32 := 0#32
  let v1492 : BitVec 1 := Scalar.cmpi .ne v1491 c0_i32_431
  let v1493 : BitVec 1 := Scalar.andi v1490 v1492
  let v1479 : BitVec 32 := Scalar.divsi v1478 c4_i32
  let c1_i32 : BitVec 32 := 1#32
  let v1494 : BitVec 32 := Scalar.subi v1479 c1_i32
  let v1495 : BitVec 32 := Scalar.select v1493 v1494 v1479
  let v1496 : BitVec 32 := Scalar.subi v1495 c0_i32_432
  let c1_i32_434 : BitVec 32 := 1#32
  let v1498 : BitVec 32 := Scalar.divsi v1496 c1_i32_434
  let v1499 : BitVec 32 := Scalar.muli v1498 c1_i32_434
  let v1500 : BitVec 32 := Scalar.addi c0_i32_432 v1499
  let c1_i32_436 : BitVec 32 := 1#32
  let arg23 : BitVec 32 := Scf.iv v1500 c1_i32_436 k0_t2
  let c4_i32_549 : BitVec 32 := 4#32
  let v1703 : BitVec 32 := Scalar.muli arg23 c4_i32_549
  let c3_i32_550 : BitVec 32 := 3#32
  let v1704 : BitVec 32 := Scalar.addi v1703 c3_i32_550
  let v1706 : Index := Scalar.indexCast v1704
  ![v1705.toNat, v1706.toNat]

def k0_chk1 (i : grid0.Coords) (v1477 : BitVec 32) : Prop :=
  ((k0_t1_loop v1477).OK) ∧
  (∀ k0_t1 : Fin (k0_t1_loop v1477).trips, ∀ a, (k0_off2 i v1477 k0_t1) a + S1x1.size a ≤ S4x384.size a) ∧
  (∀ k0_t1 : Fin (k0_t1_loop v1477).trips, ∀ a, (k0_off4 i v1477 k0_t1) a + S1x1.size a ≤ S4x384.size a) ∧
  (∀ k0_t1 : Fin (k0_t1_loop v1477).trips, ∀ a, (k0_off6 i v1477 k0_t1) a + S1x1.size a ≤ S4x384.size a) ∧
  (∀ k0_t1 : Fin (k0_t1_loop v1477).trips, ∀ a, (k0_off8 i v1477 k0_t1) a + S1x1.size a ≤ S4x384.size a) ∧
  ((k0_t2_loop v1477).OK) ∧
  (∀ k0_t2 : Fin (k0_t2_loop v1477).trips, ∀ a, (k0_off10 i v1477 k0_t2) a + S1x1.size a ≤ S4x384.size a) ∧
  (∀ k0_t2 : Fin (k0_t2_loop v1477).trips, ∀ a, (k0_off12 i v1477 k0_t2) a + S1x1.size a ≤ S4x384.size a) ∧
  (∀ k0_t2 : Fin (k0_t2_loop v1477).trips, ∀ a, (k0_off14 i v1477 k0_t2) a + S1x1.size a ≤ S4x384.size a) ∧
  (∀ k0_t2 : Fin (k0_t2_loop v1477).trips, ∀ a, (k0_off16 i v1477 k0_t2) a + S1x1.size a ≤ S4x384.size a)
theorem k0_t1_ok : ∀ (i : grid0.Coords) (v1477 : BitVec 32) (k0_hw1 : k0_chk1 i v1477), (k0_t1_loop v1477).OK := fun i v1477 k0_hw1 => k0_hw1.1
theorem k0_off2_inb : ∀ (i : grid0.Coords) (v1477 : BitVec 32) (k0_hw1 : k0_chk1 i v1477) (k0_t1 : Fin (k0_t1_loop v1477).trips), ∀ a, (k0_off2 i v1477 k0_t1) a + S1x1.size a ≤ S4x384.size a := fun i v1477 k0_hw1 k0_t1 => k0_hw1.2.1 k0_t1
theorem k0_off4_inb : ∀ (i : grid0.Coords) (v1477 : BitVec 32) (k0_hw1 : k0_chk1 i v1477) (k0_t1 : Fin (k0_t1_loop v1477).trips), ∀ a, (k0_off4 i v1477 k0_t1) a + S1x1.size a ≤ S4x384.size a := fun i v1477 k0_hw1 k0_t1 => k0_hw1.2.2.1 k0_t1
theorem k0_off6_inb : ∀ (i : grid0.Coords) (v1477 : BitVec 32) (k0_hw1 : k0_chk1 i v1477) (k0_t1 : Fin (k0_t1_loop v1477).trips), ∀ a, (k0_off6 i v1477 k0_t1) a + S1x1.size a ≤ S4x384.size a := fun i v1477 k0_hw1 k0_t1 => k0_hw1.2.2.2.1 k0_t1
theorem k0_off8_inb : ∀ (i : grid0.Coords) (v1477 : BitVec 32) (k0_hw1 : k0_chk1 i v1477) (k0_t1 : Fin (k0_t1_loop v1477).trips), ∀ a, (k0_off8 i v1477 k0_t1) a + S1x1.size a ≤ S4x384.size a := fun i v1477 k0_hw1 k0_t1 => k0_hw1.2.2.2.2.1 k0_t1
theorem k0_t2_ok : ∀ (i : grid0.Coords) (v1477 : BitVec 32) (k0_hw1 : k0_chk1 i v1477), (k0_t2_loop v1477).OK := fun i v1477 k0_hw1 => k0_hw1.2.2.2.2.2.1
theorem k0_off10_inb : ∀ (i : grid0.Coords) (v1477 : BitVec 32) (k0_hw1 : k0_chk1 i v1477) (k0_t2 : Fin (k0_t2_loop v1477).trips), ∀ a, (k0_off10 i v1477 k0_t2) a + S1x1.size a ≤ S4x384.size a := fun i v1477 k0_hw1 k0_t2 => k0_hw1.2.2.2.2.2.2.1 k0_t2
theorem k0_off12_inb : ∀ (i : grid0.Coords) (v1477 : BitVec 32) (k0_hw1 : k0_chk1 i v1477) (k0_t2 : Fin (k0_t2_loop v1477).trips), ∀ a, (k0_off12 i v1477 k0_t2) a + S1x1.size a ≤ S4x384.size a := fun i v1477 k0_hw1 k0_t2 => k0_hw1.2.2.2.2.2.2.2.1 k0_t2
theorem k0_off14_inb : ∀ (i : grid0.Coords) (v1477 : BitVec 32) (k0_hw1 : k0_chk1 i v1477) (k0_t2 : Fin (k0_t2_loop v1477).trips), ∀ a, (k0_off14 i v1477 k0_t2) a + S1x1.size a ≤ S4x384.size a := fun i v1477 k0_hw1 k0_t2 => k0_hw1.2.2.2.2.2.2.2.2.1 k0_t2
theorem k0_off16_inb : ∀ (i : grid0.Coords) (v1477 : BitVec 32) (k0_hw1 : k0_chk1 i v1477) (k0_t2 : Fin (k0_t2_loop v1477).trips), ∀ a, (k0_off16 i v1477 k0_t2) a + S1x1.size a ≤ S4x384.size a := fun i v1477 k0_hw1 k0_t2 => k0_hw1.2.2.2.2.2.2.2.2.2 k0_t2

def k0_mult8 (v1707 : BitVec 32) : BitVec 32 :=
  let c8_i32_551 : BitVec 32 := 8#32
  let v1708 : BitVec 32 := Scalar.muli v1707 c8_i32_551
  v1708

def k0_off17 (v1707 : BitVec 32) : Fin 2 → Nat :=
  let c8_i32_551 : BitVec 32 := 8#32
  let v1708 : BitVec 32 := Scalar.muli v1707 c8_i32_551
  let v1709 : BitVec 32 := v1708
  let v1710 : Index := Scalar.indexCast v1709
  let c0_552 : Index := 0#32
  ![v1710.toNat, 0]

def k0_chk9 (v1707 : BitVec 32) : Prop :=
  (8 ∣ (k0_mult8 v1707).toNat) ∧
  (∀ a, (k0_off17 v1707) a + S8x128.size a ≤ S3072x128.size a)
theorem k0_mult8_dvd : ∀ (v1707 : BitVec 32) (k0_hw9 : k0_chk9 v1707), 8 ∣ (k0_mult8 v1707).toNat := fun v1707 k0_hw9 => k0_hw9.1
theorem k0_off17_inb : ∀ (v1707 : BitVec 32) (k0_hw9 : k0_chk9 v1707), ∀ a, (k0_off17 v1707) a + S8x128.size a ≤ S3072x128.size a := fun v1707 k0_hw9 => k0_hw9.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x3072x4 : Shape := ⟨3, ![4, 3072, 4]⟩
abbrev S4x32x4 : Shape := ⟨3, ![4, 32, 4]⟩
abbrev S3072x4 : Shape := ⟨2, ![3072, 4]⟩
abbrev S4x3072x1 : Shape := ⟨3, ![4, 3072, 1]⟩
abbrev S4x3072 : Shape := ⟨2, ![4, 3072]⟩
abbrev S3072x2 : Shape := ⟨2, ![3072, 2]⟩
abbrev S4x3072x2 : Shape := ⟨3, ![4, 3072, 2]⟩
abbrev S_ : Shape := ⟨0, ![]⟩
abbrev S1x3072x2 : Shape := ⟨3, ![1, 3072, 2]⟩
abbrev S4x3072x1x2 : Shape := ⟨4, ![4, 3072, 1, 2]⟩
abbrev S4x32x2 : Shape := ⟨3, ![4, 32, 2]⟩
abbrev S4x1x32x2 : Shape := ⟨4, ![4, 1, 32, 2]⟩
abbrev S4x3072x32x2 : Shape := ⟨4, ![4, 3072, 32, 2]⟩
abbrev S4x3072x32x1 : Shape := ⟨4, ![4, 3072, 32, 1]⟩
abbrev S4x3072x32 : Shape := ⟨3, ![4, 3072, 32]⟩
abbrev S4x32x1 : Shape := ⟨3, ![4, 32, 1]⟩
abbrev S4x32 : Shape := ⟨2, ![4, 32]⟩
abbrev S4x1x32 : Shape := ⟨3, ![4, 1, 32]⟩
abbrev S32 : Shape := ⟨1, ![32]⟩
abbrev S1x32 : Shape := ⟨2, ![1, 32]⟩
abbrev S3072x32 : Shape := ⟨2, ![3072, 32]⟩
abbrev S1x1x32 : Shape := ⟨3, ![1, 1, 32]⟩
abbrev S3072 : Shape := ⟨1, ![3072]⟩
abbrev S4 : Shape := ⟨1, ![4]⟩
abbrev S4x1x3072x2 : Shape := ⟨4, ![4, 1, 3072, 2]⟩
abbrev S4x3072x3072x2 : Shape := ⟨4, ![4, 3072, 3072, 2]⟩
abbrev S4x3072x3072x1 : Shape := ⟨4, ![4, 3072, 3072, 1]⟩
abbrev S4x3072x3072 : Shape := ⟨3, ![4, 3072, 3072]⟩
abbrev S4x1x3072 : Shape := ⟨3, ![4, 1, 3072]⟩
abbrev S3072x3072 : Shape := ⟨2, ![3072, 3072]⟩

abbrev nBuf : Space → Nat
  | .hbm => 347
  | .vmem => 0
  | .smem => 0
  | _ => 0

abbrev hbmTy0_0 (i : Nat) : BufTy := match i % 128 with
  | 0 => ⟨S4x3072x4, .f32⟩
  | 1 => ⟨S4x32x4, .f32⟩
  | 2 => ⟨S3072x4, .f32⟩
  | 3 => ⟨S4x3072x4, .i1⟩
  | 4 => ⟨S4x3072x1, .i1⟩
  | 5 => ⟨S4x3072, .i1⟩
  | 6 => ⟨S3072x2, .f32⟩
  | 7 => ⟨S4x3072x2, .f32⟩
  | 8 => ⟨S_, .f32⟩
  | 9 => ⟨S4x3072x2, .f32⟩
  | 10 => ⟨S4x3072x2, .f32⟩
  | 11 => ⟨S3072x2, .f32⟩
  | 12 => ⟨S1x3072x2, .f32⟩
  | 13 => ⟨S4x3072x2, .f32⟩
  | 14 => ⟨S4x3072x2, .f32⟩
  | 15 => ⟨S1x3072x2, .f32⟩
  | 16 => ⟨S4x3072x2, .f32⟩
  | 17 => ⟨S4x3072x2, .f32⟩
  | 18 => ⟨S3072x2, .f32⟩
  | 19 => ⟨S4x3072x2, .f32⟩
  | 20 => ⟨S_, .f32⟩
  | 21 => ⟨S4x3072x2, .f32⟩
  | 22 => ⟨S4x3072x2, .f32⟩
  | 23 => ⟨S4x3072x2, .f32⟩
  | 24 => ⟨S1x3072x2, .f32⟩
  | 25 => ⟨S4x3072x2, .f32⟩
  | 26 => ⟨S4x3072x2, .f32⟩
  | 27 => ⟨S_, .f32⟩
  | 28 => ⟨S4x3072x2, .f32⟩
  | 29 => ⟨S4x3072x2, .f32⟩
  | 30 => ⟨S4x3072x2, .f32⟩
  | 31 => ⟨S_, .f32⟩
  | 32 => ⟨S4x3072x2, .f32⟩
  | 33 => ⟨S4x3072x2, .f32⟩
  | 34 => ⟨S4x3072x2, .f32⟩
  | 35 => ⟨S4x3072x4, .f32⟩
  | 36 => ⟨S4x3072x2, .f32⟩
  | 37 => ⟨S4x3072x1x2, .f32⟩
  | 38 => ⟨S4x32x2, .f32⟩
  | 39 => ⟨S4x1x32x2, .f32⟩
  | 40 => ⟨S4x3072x32x2, .f32⟩
  | 41 => ⟨S4x3072x32x2, .f32⟩
  | 42 => ⟨S4x3072x32x2, .f32⟩
  | 43 => ⟨S4x3072x2, .f32⟩
  | 44 => ⟨S4x3072x1x2, .f32⟩
  | 45 => ⟨S4x32x2, .f32⟩
  | 46 => ⟨S4x1x32x2, .f32⟩
  | 47 => ⟨S4x3072x32x2, .f32⟩
  | 48 => ⟨S4x3072x32x2, .f32⟩
  | 49 => ⟨S4x3072x32x2, .f32⟩
  | 50 => ⟨S4x3072x32x2, .f32⟩
  | 51 => ⟨S_, .f32⟩
  | 52 => ⟨S_, .f32⟩
  | 53 => ⟨S4x3072x32x2, .f32⟩
  | 54 => ⟨S4x3072x32x2, .f32⟩
  | 55 => ⟨S4x3072x32x1, .f32⟩
  | 56 => ⟨S4x3072x32, .f32⟩
  | 57 => ⟨S4x3072x32x1, .f32⟩
  | 58 => ⟨S4x3072x32, .f32⟩
  | 59 => ⟨S4x3072x32, .f32⟩
  | 60 => ⟨S4x3072x1, .f32⟩
  | 61 => ⟨S4x3072, .f32⟩
  | 62 => ⟨S4x3072x1, .f32⟩
  | 63 => ⟨S4x3072, .f32⟩
  | 64 => ⟨S4x3072, .f32⟩
  | 65 => ⟨S4x3072x1, .f32⟩
  | 66 => ⟨S4x3072, .f32⟩
  | 67 => ⟨S4x3072x1, .f32⟩
  | 68 => ⟨S4x3072, .f32⟩
  | 69 => ⟨S4x3072, .f32⟩
  | 70 => ⟨S4x3072, .f32⟩
  | 71 => ⟨S4x32x1, .f32⟩
  | 72 => ⟨S4x32, .f32⟩
  | 73 => ⟨S4x32x1, .f32⟩
  | 74 => ⟨S4x32, .f32⟩
  | 75 => ⟨S4x32, .f32⟩
  | 76 => ⟨S4x32x1, .f32⟩
  | 77 => ⟨S4x32, .f32⟩
  | 78 => ⟨S4x32x1, .f32⟩
  | 79 => ⟨S4x32, .f32⟩
  | 80 => ⟨S4x32, .f32⟩
  | 81 => ⟨S4x32, .f32⟩
  | 82 => ⟨S4x3072x1, .f32⟩
  | 83 => ⟨S4x1x32, .f32⟩
  | 84 => ⟨S4x3072x32, .f32⟩
  | 85 => ⟨S4x3072x32, .f32⟩
  | 86 => ⟨S4x3072x32, .f32⟩
  | 87 => ⟨S4x3072x32, .f32⟩
  | 88 => ⟨S4x3072x32, .f32⟩
  | 89 => ⟨S4x3072x1, .i1⟩
  | 90 => ⟨S4x3072x1, .f32⟩
  | 91 => ⟨S4x3072x32, .f32⟩
  | 92 => ⟨S4x3072x32, .f32⟩
  | 93 => ⟨S32, .i32⟩
  | 94 => ⟨S_, .f32⟩
  | 95 => ⟨S4x3072, .f32⟩
  | 96 => ⟨S4x3072x1, .f32⟩
  | 97 => ⟨S4x3072x32, .f32⟩
  | 98 => ⟨S4x3072x32, .i1⟩
  | 99 => ⟨S1x32, .i32⟩
  | 100 => ⟨S_, .i32⟩
  | 101 => ⟨S_, .i32⟩
  | 102 => ⟨S3072x32, .i32⟩
  | 103 => ⟨S3072x32, .i32⟩
  | 104 => ⟨S4x3072x32, .i32⟩
  | 105 => ⟨S4x3072x32, .i32⟩
  | 106 => ⟨S4x3072x32, .i32⟩
  | 107 => ⟨S_, .i32⟩
  | 108 => ⟨S4x3072, .i32⟩
  | 109 => ⟨S1x32, .i32⟩
  | 110 => ⟨S4x3072x1, .i32⟩
  | 111 => ⟨S1x1x32, .i32⟩
  | 112 => ⟨S4x3072x32, .i32⟩
  | 113 => ⟨S4x3072x32, .i32⟩
  | 114 => ⟨S4x3072x32, .i1⟩
  | 115 => ⟨S_, .f32⟩
  | 116 => ⟨S_, .f32⟩
  | 117 => ⟨S3072x32, .f32⟩
  | 118 => ⟨S4x3072x32, .f32⟩
  | 119 => ⟨S4x3072x32, .f32⟩
  | 120 => ⟨S_, .f32⟩
  | 121 => ⟨S4x3072, .f32⟩
  | 122 => ⟨S_, .f32⟩
  | 123 => ⟨S4x3072, .f32⟩
  | 124 => ⟨S4x3072x1, .f32⟩
  | 125 => ⟨S4x3072x32, .f32⟩
  | 126 => ⟨S4x3072x32, .i1⟩
  | 127 => ⟨S1x32, .i32⟩
  | _ => ⟨S4x3072x4, .f32⟩

abbrev hbmTy0_1 (i : Nat) : BufTy := match i % 128 with
  | 0 => ⟨S_, .i32⟩
  | 1 => ⟨S_, .i32⟩
  | 2 => ⟨S3072x32, .i32⟩
  | 3 => ⟨S3072x32, .i32⟩
  | 4 => ⟨S4x3072x32, .i32⟩
  | 5 => ⟨S4x3072x32, .i32⟩
  | 6 => ⟨S4x3072x32, .i32⟩
  | 7 => ⟨S_, .i32⟩
  | 8 => ⟨S4x3072, .i32⟩
  | 9 => ⟨S_, .i32⟩
  | 10 => ⟨S4x3072, .i32⟩
  | 11 => ⟨S4x3072, .i1⟩
  | 12 => ⟨S_, .i32⟩
  | 13 => ⟨S4x3072, .i32⟩
  | 14 => ⟨S4x3072, .i32⟩
  | 15 => ⟨S4x3072, .i32⟩
  | 16 => ⟨S4x3072x1, .i32⟩
  | 17 => ⟨S4x3072x4, .f32⟩
  | 18 => ⟨S4x3072x2, .f32⟩
  | 19 => ⟨S4x3072x2, .f32⟩
  | 20 => ⟨S4x3072x2, .f32⟩
  | 21 => ⟨S4x3072x2, .f32⟩
  | 22 => ⟨S4x3072x2, .f32⟩
  | 23 => ⟨S4x3072x2, .f32⟩
  | 24 => ⟨S4x3072x2, .f32⟩
  | 25 => ⟨S_, .f32⟩
  | 26 => ⟨S_, .f32⟩
  | 27 => ⟨S4x3072x2, .f32⟩
  | 28 => ⟨S4x3072x2, .f32⟩
  | 29 => ⟨S4x3072x1, .f32⟩
  | 30 => ⟨S4x3072, .f32⟩
  | 31 => ⟨S4x3072x1, .f32⟩
  | 32 => ⟨S4x3072, .f32⟩
  | 33 => ⟨S4x3072, .f32⟩
  | 34 => ⟨S4x3072x1, .f32⟩
  | 35 => ⟨S4x3072, .f32⟩
  | 36 => ⟨S4x3072x1, .f32⟩
  | 37 => ⟨S4x3072, .f32⟩
  | 38 => ⟨S4x3072, .f32⟩
  | 39 => ⟨S4x3072x1, .f32⟩
  | 40 => ⟨S4x3072, .f32⟩
  | 41 => ⟨S4x3072x1, .f32⟩
  | 42 => ⟨S4x3072, .f32⟩
  | 43 => ⟨S4x3072, .f32⟩
  | 44 => ⟨S4x3072, .f32⟩
  | 45 => ⟨S4x3072, .f32⟩
  | 46 => ⟨S_, .f32⟩
  | 47 => ⟨S4x3072, .f32⟩
  | 48 => ⟨S4x3072, .i1⟩
  | 49 => ⟨S_, .f32⟩
  | 50 => ⟨S_, .f32⟩
  | 51 => ⟨S3072, .f32⟩
  | 52 => ⟨S4x3072, .f32⟩
  | 53 => ⟨S4x3072, .f32⟩
  | 54 => ⟨S_, .f32⟩
  | 55 => ⟨S4x3072, .f32⟩
  | 56 => ⟨S4x3072, .i1⟩
  | 57 => ⟨S_, .f32⟩
  | 58 => ⟨S4x3072, .f32⟩
  | 59 => ⟨S4x3072, .f32⟩
  | 60 => ⟨S_, .f32⟩
  | 61 => ⟨S4x3072, .f32⟩
  | 62 => ⟨S4x3072, .f32⟩
  | 63 => ⟨S_, .f32⟩
  | 64 => ⟨S4x3072, .f32⟩
  | 65 => ⟨S4x3072, .f32⟩
  | 66 => ⟨S_, .f32⟩
  | 67 => ⟨S4x3072, .f32⟩
  | 68 => ⟨S4x3072, .f32⟩
  | 69 => ⟨S_, .f32⟩
  | 70 => ⟨S_, .f32⟩
  | 71 => ⟨S4x3072, .f32⟩
  | 72 => ⟨S4x3072, .f32⟩
  | 73 => ⟨S4x3072, .f32⟩
  | 74 => ⟨S4x3072, .f32⟩
  | 75 => ⟨S4x3072, .f32⟩
  | 76 => ⟨S_, .f32⟩
  | 77 => ⟨S4x3072, .f32⟩
  | 78 => ⟨S4x3072, .i1⟩
  | 79 => ⟨S4x3072, .i1⟩
  | 80 => ⟨S4x3072, .f32⟩
  | 81 => ⟨S_, .f32⟩
  | 82 => ⟨S4, .f32⟩
  | 83 => ⟨S_, .f32⟩
  | 84 => ⟨S_, .f32⟩
  | 85 => ⟨S3072, .f32⟩
  | 86 => ⟨S4x3072, .f32⟩
  | 87 => ⟨S4x3072, .f32⟩
  | 88 => ⟨S_, .f32⟩
  | 89 => ⟨S4, .f32⟩
  | 90 => ⟨S_, .f32⟩
  | 91 => ⟨S4, .f32⟩
  | 92 => ⟨S4, .i1⟩
  | 93 => ⟨S_, .f32⟩
  | 94 => ⟨S4, .f32⟩
  | 95 => ⟨S4, .f32⟩
  | 96 => ⟨S4, .f32⟩
  | 97 => ⟨S_, .f32⟩
  | 98 => ⟨S_, .f32⟩
  | 99 => ⟨S4, .f32⟩
  | 100 => ⟨S4, .f32⟩
  | 101 => ⟨S4x3072x2, .f32⟩
  | 102 => ⟨S4x3072x1x2, .f32⟩
  | 103 => ⟨S4x3072x2, .f32⟩
  | 104 => ⟨S4x1x3072x2, .f32⟩
  | 105 => ⟨S4x3072x3072x2, .f32⟩
  | 106 => ⟨S4x3072x3072x2, .f32⟩
  | 107 => ⟨S4x3072x3072x2, .f32⟩
  | 108 => ⟨S4x3072x2, .f32⟩
  | 109 => ⟨S4x3072x1x2, .f32⟩
  | 110 => ⟨S4x3072x2, .f32⟩
  | 111 => ⟨S4x1x3072x2, .f32⟩
  | 112 => ⟨S4x3072x3072x2, .f32⟩
  | 113 => ⟨S4x3072x3072x2, .f32⟩
  | 114 => ⟨S4x3072x3072x2, .f32⟩
  | 115 => ⟨S4x3072x3072x2, .f32⟩
  | 116 => ⟨S_, .f32⟩
  | 117 => ⟨S_, .f32⟩
  | 118 => ⟨S4x3072x3072x2, .f32⟩
  | 119 => ⟨S4x3072x3072x2, .f32⟩
  | 120 => ⟨S4x3072x3072x1, .f32⟩
  | 121 => ⟨S4x3072x3072, .f32⟩
  | 122 => ⟨S4x3072x3072x1, .f32⟩
  | 123 => ⟨S4x3072x3072, .f32⟩
  | 124 => ⟨S4x3072x3072, .f32⟩
  | 125 => ⟨S4x3072x1, .f32⟩
  | 126 => ⟨S4x3072, .f32⟩
  | 127 => ⟨S4x3072x1, .f32⟩
  | _ => ⟨S4x3072x4, .f32⟩

abbrev hbmTy0_2 (i : Nat) : BufTy := match i % 128 with
  | 0 => ⟨S4x3072, .f32⟩
  | 1 => ⟨S4x3072, .f32⟩
  | 2 => ⟨S4x3072x1, .f32⟩
  | 3 => ⟨S4x3072, .f32⟩
  | 4 => ⟨S4x3072x1, .f32⟩
  | 5 => ⟨S4x3072, .f32⟩
  | 6 => ⟨S4x3072, .f32⟩
  | 7 => ⟨S4x3072, .f32⟩
  | 8 => ⟨S4x3072x1, .f32⟩
  | 9 => ⟨S4x3072, .f32⟩
  | 10 => ⟨S4x3072x1, .f32⟩
  | 11 => ⟨S4x3072, .f32⟩
  | 12 => ⟨S4x3072, .f32⟩
  | 13 => ⟨S4x3072x1, .f32⟩
  | 14 => ⟨S4x3072, .f32⟩
  | 15 => ⟨S4x3072x1, .f32⟩
  | 16 => ⟨S4x3072, .f32⟩
  | 17 => ⟨S4x3072, .f32⟩
  | 18 => ⟨S4x3072, .f32⟩
  | 19 => ⟨S4x3072x1, .f32⟩
  | 20 => ⟨S4x1x3072, .f32⟩
  | 21 => ⟨S4x3072x3072, .f32⟩
  | 22 => ⟨S4x3072x3072, .f32⟩
  | 23 => ⟨S4x3072x3072, .f32⟩
  | 24 => ⟨S4x3072x3072, .f32⟩
  | 25 => ⟨S4x3072x3072, .f32⟩
  | 26 => ⟨S4x3072x1, .i1⟩
  | 27 => ⟨S4x1x3072, .i1⟩
  | 28 => ⟨S4x3072x3072, .i1⟩
  | 29 => ⟨S4x3072x3072, .i1⟩
  | 30 => ⟨S4x3072x3072, .i1⟩
  | 31 => ⟨S_, .f32⟩
  | 32 => ⟨S4x3072x3072, .f32⟩
  | 33 => ⟨S4x3072x3072, .i1⟩
  | 34 => ⟨S4x3072x3072, .i1⟩
  | 35 => ⟨S_, .f32⟩
  | 36 => ⟨S4x3072x3072, .f32⟩
  | 37 => ⟨S4x3072x3072, .i1⟩
  | 38 => ⟨S_, .f32⟩
  | 39 => ⟨S_, .f32⟩
  | 40 => ⟨S3072x3072, .f32⟩
  | 41 => ⟨S4x3072x3072, .f32⟩
  | 42 => ⟨S4x3072x3072, .f32⟩
  | 43 => ⟨S_, .f32⟩
  | 44 => ⟨S4x3072x3072, .f32⟩
  | 45 => ⟨S4x3072x3072, .i1⟩
  | 46 => ⟨S_, .f32⟩
  | 47 => ⟨S4x3072x3072, .f32⟩
  | 48 => ⟨S4x3072x3072, .f32⟩
  | 49 => ⟨S_, .f32⟩
  | 50 => ⟨S4x3072x3072, .f32⟩
  | 51 => ⟨S4x3072x3072, .f32⟩
  | 52 => ⟨S_, .f32⟩
  | 53 => ⟨S4x3072x3072, .f32⟩
  | 54 => ⟨S4x3072x3072, .f32⟩
  | 55 => ⟨S_, .f32⟩
  | 56 => ⟨S4x3072x3072, .f32⟩
  | 57 => ⟨S4x3072x3072, .f32⟩
  | 58 => ⟨S_, .f32⟩
  | 59 => ⟨S_, .f32⟩
  | 60 => ⟨S4x3072x3072, .f32⟩
  | 61 => ⟨S4x3072x3072, .f32⟩
  | 62 => ⟨S4x3072x3072, .f32⟩
  | 63 => ⟨S4x3072x3072, .f32⟩
  | 64 => ⟨S4x3072x3072, .f32⟩
  | 65 => ⟨S4x3072x3072, .f32⟩
  | 66 => ⟨S_, .f32⟩
  | 67 => ⟨S4, .f32⟩
  | 68 => ⟨S_, .f32⟩
  | 69 => ⟨S_, .f32⟩
  | 70 => ⟨S3072x3072, .f32⟩
  | 71 => ⟨S4x3072x3072, .f32⟩
  | 72 => ⟨S4x3072x3072, .f32⟩
  | 73 => ⟨S_, .f32⟩
  | 74 => ⟨S4, .f32⟩
  | 75 => ⟨S_, .f32⟩
  | 76 => ⟨S4, .f32⟩
  | 77 => ⟨S4, .i1⟩
  | 78 => ⟨S_, .f32⟩
  | 79 => ⟨S4, .f32⟩
  | 80 => ⟨S4, .f32⟩
  | 81 => ⟨S4, .f32⟩
  | 82 => ⟨S_, .f32⟩
  | 83 => ⟨S_, .f32⟩
  | 84 => ⟨S4, .f32⟩
  | 85 => ⟨S4, .f32⟩
  | 86 => ⟨S_, .f32⟩
  | 87 => ⟨S_, .f32⟩
  | 88 => ⟨S_, .f32⟩
  | 89 => ⟨S_, .f32⟩
  | 90 => ⟨S_, .f32⟩
  | _ => ⟨S4x3072x4, .f32⟩

abbrev hbmTy (i : Nat) : BufTy := match i / 128 with
  | 0 => hbmTy0_0 i
  | 1 => hbmTy0_1 i
  | 2 => hbmTy0_2 i
  | _ => ⟨S4x3072x4, .f32⟩

abbrev bufTy : (tb : Table) → Fin (tcTables nBuf tb) → BufTy
  | .hbm, ⟨i, _⟩ => hbmTy i
  | _, _ => ⟨S4x3072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_4 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_c : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v88 : Ref sig .tc := ⟨.hbm, 106, rfl⟩
abbrev main_c_5 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_6 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v96 : Ref sig .tc := ⟨.hbm, 119, rfl⟩
abbrev main_cst_7 : Ref sig .tc := ⟨.hbm, 120, rfl⟩
abbrev main_v97 : Ref sig .tc := ⟨.hbm, 121, rfl⟩
abbrev main_cst_8 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_9 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v103 : Ref sig .tc := ⟨.hbm, 134, rfl⟩
abbrev main_c_10 : Ref sig .tc := ⟨.hbm, 135, rfl⟩
abbrev main_v104 : Ref sig .tc := ⟨.hbm, 136, rfl⟩
abbrev main_c_11 : Ref sig .tc := ⟨.hbm, 137, rfl⟩
abbrev main_v105 : Ref sig .tc := ⟨.hbm, 138, rfl⟩
abbrev main_v106 : Ref sig .tc := ⟨.hbm, 139, rfl⟩
abbrev main_c_12 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_13 : Ref sig .tc := ⟨.hbm, 153, rfl⟩
abbrev main_call4_v0 : Ref sig .tc := ⟨.hbm, 154, rfl⟩
abbrev main_call4_v1 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_14 : Ref sig .tc := ⟨.hbm, 174, rfl⟩
abbrev main_v137 : Ref sig .tc := ⟨.hbm, 175, rfl⟩
abbrev main_v138 : Ref sig .tc := ⟨.hbm, 176, rfl⟩
abbrev main_cst_15 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_v139 : Ref sig .tc := ⟨.hbm, 181, rfl⟩
abbrev main_cst_16 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_v143 : Ref sig .tc := ⟨.hbm, 187, rfl⟩
abbrev main_cst_18 : Ref sig .tc := ⟨.hbm, 188, rfl⟩
abbrev main_v144 : Ref sig .tc := ⟨.hbm, 189, rfl⟩
abbrev main_v145 : Ref sig .tc := ⟨.hbm, 190, rfl⟩
abbrev main_cst_19 : Ref sig .tc := ⟨.hbm, 191, rfl⟩
abbrev main_v146 : Ref sig .tc := ⟨.hbm, 192, rfl⟩
abbrev main_v147 : Ref sig .tc := ⟨.hbm, 193, rfl⟩
abbrev main_cst_20 : Ref sig .tc := ⟨.hbm, 194, rfl⟩
abbrev main_v148 : Ref sig .tc := ⟨.hbm, 195, rfl⟩
abbrev main_v149 : Ref sig .tc := ⟨.hbm, 196, rfl⟩
abbrev main_cst_21 : Ref sig .tc := ⟨.hbm, 197, rfl⟩
abbrev main_call6_v0 : Ref sig .tc := ⟨.hbm, 198, rfl⟩
abbrev main_call6_v1 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_22 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_23 : Ref sig .tc := ⟨.hbm, 209, rfl⟩
abbrev main_v158 : Ref sig .tc := ⟨.hbm, 210, rfl⟩
abbrev main_cst_24 : Ref sig .tc := ⟨.hbm, 211, rfl⟩
abbrev main_call8_v0 : Ref sig .tc := ⟨.hbm, 212, rfl⟩
abbrev main_call8_v1 : Ref sig .tc := ⟨.hbm, 213, rfl⟩
abbrev main_call8_v2 : Ref sig .tc := ⟨.hbm, 214, rfl⟩
abbrev main_v159 : Ref sig .tc := ⟨.hbm, 215, rfl⟩
abbrev main_cst_25 : Ref sig .tc := ⟨.hbm, 216, rfl⟩
abbrev main_v160 : Ref sig .tc := ⟨.hbm, 217, rfl⟩
abbrev main_cst_26 : Ref sig .tc := ⟨.hbm, 218, rfl⟩
abbrev main_v161 : Ref sig .tc := ⟨.hbm, 219, rfl⟩
abbrev main_v162 : Ref sig .tc := ⟨.hbm, 220, rfl⟩
abbrev main_cst_27 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_28 : Ref sig .tc := ⟨.hbm, 225, rfl⟩
abbrev main_call9_v0 : Ref sig .tc := ⟨.hbm, 226, rfl⟩
abbrev main_call9_v1 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_29 : Ref sig .tc := ⟨.hbm, 244, rfl⟩
abbrev main_call10_v0 : Ref sig .tc := ⟨.hbm, 245, rfl⟩
abbrev main_call10_v1 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_30 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_31 : Ref sig .tc := ⟨.hbm, 291, rfl⟩
abbrev main_v225 : Ref sig .tc := ⟨.hbm, 292, rfl⟩
abbrev main_v226 : Ref sig .tc := ⟨.hbm, 293, rfl⟩
abbrev main_cst_32 : Ref sig .tc := ⟨.hbm, 294, rfl⟩
abbrev main_call11_v0 : Ref sig .tc := ⟨.hbm, 295, rfl⟩
abbrev main_call11_v1 : Ref sig .tc := ⟨.hbm, 296, rfl⟩
abbrev main_call11_v2 : Ref sig .tc := ⟨.hbm, 297, rfl⟩
abbrev main_v227 : Ref sig .tc := ⟨.hbm, 298, rfl⟩
abbrev main_cst_33 : Ref sig .tc := ⟨.hbm, 299, rfl⟩
abbrev main_v228 : Ref sig .tc := ⟨.hbm, 300, rfl⟩
abbrev main_v229 : Ref sig .tc := ⟨.hbm, 301, rfl⟩
abbrev main_cst_34 : Ref sig .tc := ⟨.hbm, 302, rfl⟩
abbrev main_v230 : Ref sig .tc := ⟨.hbm, 303, rfl⟩
abbrev main_v231 : Ref sig .tc := ⟨.hbm, 304, rfl⟩
abbrev main_cst_35 : Ref sig .tc := ⟨.hbm, 305, rfl⟩
abbrev main_v232 : Ref sig .tc := ⟨.hbm, 306, rfl⟩
abbrev main_v233 : Ref sig .tc := ⟨.hbm, 307, rfl⟩
abbrev main_cst_36 : Ref sig .tc := ⟨.hbm, 308, rfl⟩
abbrev main_v234 : Ref sig .tc := ⟨.hbm, 309, rfl⟩
abbrev main_v235 : Ref sig .tc := ⟨.hbm, 310, rfl⟩
abbrev main_cst_37 : Ref sig .tc := ⟨.hbm, 311, rfl⟩
abbrev main_v236 : Ref sig .tc := ⟨.hbm, 312, rfl⟩
abbrev main_v237 : Ref sig .tc := ⟨.hbm, 313, rfl⟩
abbrev main_cst_38 : Ref sig .tc := ⟨.hbm, 314, rfl⟩
abbrev main_call12_v0 : Ref sig .tc := ⟨.hbm, 315, rfl⟩
abbrev main_call12_v1 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_cst_39 : Ref sig .tc := ⟨.hbm, 322, rfl⟩
abbrev main_v243 : Ref sig .tc := ⟨.hbm, 323, rfl⟩
abbrev main_cst_40 : Ref sig .tc := ⟨.hbm, 324, rfl⟩
abbrev main_call14_v0 : Ref sig .tc := ⟨.hbm, 325, rfl⟩
abbrev main_call14_v1 : Ref sig .tc := ⟨.hbm, 326, rfl⟩
abbrev main_call14_v2 : Ref sig .tc := ⟨.hbm, 327, rfl⟩
abbrev main_v244 : Ref sig .tc := ⟨.hbm, 328, rfl⟩
abbrev main_cst_41 : Ref sig .tc := ⟨.hbm, 329, rfl⟩
abbrev main_v245 : Ref sig .tc := ⟨.hbm, 330, rfl⟩
abbrev main_cst_42 : Ref sig .tc := ⟨.hbm, 331, rfl⟩
abbrev main_v246 : Ref sig .tc := ⟨.hbm, 332, rfl⟩
abbrev main_v247 : Ref sig .tc := ⟨.hbm, 333, rfl⟩
abbrev main_cst_43 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_cst_44 : Ref sig .tc := ⟨.hbm, 338, rfl⟩
abbrev main_call15_v0 : Ref sig .tc := ⟨.hbm, 339, rfl⟩
abbrev main_call15_v1 : Ref sig .tc := ⟨.hbm, 340, rfl⟩
abbrev main_v251 : Ref sig .tc := ⟨.hbm, 341, rfl⟩
abbrev main_cst_45 : Ref sig .tc := ⟨.hbm, 342, rfl⟩
abbrev main_v252 : Ref sig .tc := ⟨.hbm, 343, rfl⟩
abbrev main_cst_46 : Ref sig .tc := ⟨.hbm, 344, rfl⟩
abbrev main_v253 : Ref sig .tc := ⟨.hbm, 345, rfl⟩
abbrev main_v254 : Ref sig .tc := ⟨.hbm, 346, rfl⟩

abbrev nD : Nat := 1
abbrev τ : Topo := Topo.v7x

variable {F : FTy → Type} [FloatOps F]
-- ==== Proof.TripIdeal.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.LoopRemainder
public import Idealize.ShloMosaic.Lib.Pipeline.FrameBody
public import Idealize.ShloMosaic.Lib.Pipeline.Value
public import Idealize.ShloMosaic.Lib.ValueIdx

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.ShloMosaic.ValueIdx (ix2)
open Idealize.ShloMosaic.View
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-! ## One row group -/

/-- The accumulated overlaps after one row group against every column. -/
def stepB (x1 y1 x2 y2 am : Vec F S8x128 .f32) (cx1 cy1 cx2 cy2 cam acc : Vec F S8x3072 .f32) : Vec F S8x3072 .f32 :=
  Gen.k0_pay5 (Gen.k0_pay2 x1 y1 x2 y2 cx2 cx1 cy2 cy1) (Gen.k0_pay3 am) cam acc

/-- The accumulated counts of positive overlaps after one row group against every column. -/
def stepN (x1 y1 x2 y2 am : Vec F S8x128 .f32) (cx1 cy1 cx2 cy2 cam acc : Vec F S8x3072 .f32) : Vec F S8x3072 .f32 :=
  Gen.k0_pay6 (Gen.k0_pay2 x1 y1 x2 y2 cx2 cx1 cy2 cy1) (Gen.k0_pay3 am) cam acc

/-- Row group `w` of a table of rows: its rows `8 w … 8 w + 7`. -/
def rowsAt (X : S3072x128.Idx → Elt F .f32) (w : BitVec 32) : Vec F S8x128 .f32 :=
  fun y => X (ix2 ⟨(8 * w.toNat + (y 0).val) % 3072, Nat.mod_lt _ (by decide)⟩ (y 1))

/-- The accumulated overlaps after the first `n` row groups the list `W` names. -/
def accB (x1 y1 x2 y2 am : S3072x128.Idx → Elt F .f32) (cx1 cy1 cx2 cy2 cam : Vec F S8x3072 .f32) (W : ℕ → BitVec 32)
    (b0 : Vec F S8x3072 .f32) : ℕ → Vec F S8x3072 .f32
  | 0 => b0
  | n + 1 => stepB (rowsAt x1 (W n)) (rowsAt y1 (W n)) (rowsAt x2 (W n)) (rowsAt y2 (W n)) (rowsAt am (W n))
      cx1 cy1 cx2 cy2 cam (accB x1 y1 x2 y2 am cx1 cy1 cx2 cy2 cam W b0 n)

/-- The accumulated counts after the first `n` row groups the list `W` names. -/
def accN (x1 y1 x2 y2 am : S3072x128.Idx → Elt F .f32) (cx1 cy1 cx2 cy2 cam : Vec F S8x3072 .f32) (W : ℕ → BitVec 32)
    (b0 : Vec F S8x3072 .f32) : ℕ → Vec F S8x3072 .f32
  | 0 => b0
  | n + 1 => stepN (rowsAt x1 (W n)) (rowsAt y1 (W n)) (rowsAt x2 (W n)) (rowsAt y2 (W n)) (rowsAt am (W n))
      cx1 cy1 cx2 cy2 cam (accN x1 y1 x2 y2 am cx1 cy1 cx2 cy2 cam W b0 n)

/-- A word that names one of the 384 row groups. -/
def GroupWord (w : BitVec 32) : Prop := w.toNat < 384

theorem chk2_of (w : BitVec 32) (h : GroupWord w) : k0_chk2 w := by
  have e : (w * 8#32).toNat = 8 * w.toNat := by
    unfold GroupWord at h
    rw [BitVec.toNat_mul]; simp; omega
  unfold GroupWord at h
  refine ⟨?_, fun a => ?_⟩
  · show 8 ∣ (w * 8#32).toNat
    rw [e]; exact ⟨_, rfl⟩
  · have ha : a = 0 ∨ a = 1 := by
      rcases a with ⟨a, ha⟩; rcases a with _ | _ | a
      · exact Or.inl rfl
      · exact Or.inr rfl
      · exact absurd ha (by simp)
    rcases ha with rfl | rfl
    · show (w * 8#32).toNat + 8 ≤ 3072
      omega
    · show 0 + 128 ≤ 128
      omega

theorem chk3_of (w : BitVec 32) (h : GroupWord w) : k0_chk3 w := chk2_of w h
theorem chk4_of (w : BitVec 32) (h : GroupWord w) : k0_chk4 w := chk2_of w h
theorem chk5_of (w : BitVec 32) (h : GroupWord w) : k0_chk5 w := chk2_of w h

/-! ## Where a trip reads the list -/

theorem place0 : ∀ n : Fin 96, (Scalar.indexCast (Scalar.addi (Scalar.muli (Scf.iv 0#32 1#32 n.val) 4#32) 0#32)).toNat = 4 * n.val := by decide +kernel
theorem place1 : ∀ n : Fin 96, (Scalar.indexCast (Scalar.addi (Scalar.muli (Scf.iv 0#32 1#32 n.val) 4#32) 1#32)).toNat = 4 * n.val + 1 := by decide +kernel
theorem place2 : ∀ n : Fin 96, (Scalar.indexCast (Scalar.addi (Scalar.muli (Scf.iv 0#32 1#32 n.val) 4#32) 2#32)).toNat = 4 * n.val + 2 := by decide +kernel
theorem place3 : ∀ n : Fin 96, (Scalar.indexCast (Scalar.addi (Scalar.muli (Scf.iv 0#32 1#32 n.val) 4#32) 3#32)).toNat = 4 * n.val + 3 := by decide +kernel
theorem point_word : ∀ n : Fin 4, (Scalar.indexCast (BitVec.ofNat 32 n.val)).toNat = n.val := by decide

/-- The list's row `b` as a sequence of words. -/
def word (X : S4x384.Idx → BitVec 32) (b : Fin 4) (n : ℕ) : BitVec 32 :=
  X (ix2 b ⟨n % 384, Nat.mod_lt _ (by decide)⟩)

theorem off2_eq (i : grid0.Coords) (v : BitVec 32) (k : Fin (k0_t1_loop v).trips) (hk : k.val < 96) :
    k0_off2 i v k = ![(i 0).val, 4 * k.val] :=
  congrArg₂ (fun a b : ℕ => (![a, b] : Fin 2 → ℕ)) (point_word (i 0)) (place0 ⟨k.val, hk⟩)
theorem off4_eq (i : grid0.Coords) (v : BitVec 32) (k : Fin (k0_t1_loop v).trips) (hk : k.val < 96) :
    k0_off4 i v k = ![(i 0).val, 4 * k.val + 1] :=
  congrArg₂ (fun a b : ℕ => (![a, b] : Fin 2 → ℕ)) (point_word (i 0)) (place1 ⟨k.val, hk⟩)
theorem off6_eq (i : grid0.Coords) (v : BitVec 32) (k : Fin (k0_t1_loop v).trips) (hk : k.val < 96) :
    k0_off6 i v k = ![(i 0).val, 4 * k.val + 2] :=
  congrArg₂ (fun a b : ℕ => (![a, b] : Fin 2 → ℕ)) (point_word (i 0)) (place2 ⟨k.val, hk⟩)
theorem off8_eq (i : grid0.Coords) (v : BitVec 32) (k : Fin (k0_t1_loop v).trips) (hk : k.val < 96) :
    k0_off8 i v k = ![(i 0).val, 4 * k.val + 3] :=
  congrArg₂ (fun a b : ℕ => (![a, b] : Fin 2 → ℕ)) (point_word (i 0)) (place3 ⟨k.val, hk⟩)

/-! ## What a trip's loads read -/

section Loads

variable {sp : Space}

theorem zeros2 : (![0, 0] : Fin 2 → ℕ) = fun _ => 0 := by
  funext a; match a with | ⟨0, _⟩ => rfl | ⟨1, _⟩ => rfl

/-- A load of a whole 8 × 3072 buffer reads its contents. -/
theorem load_whole (v : View sig .tc sp S8x3072 .f32) (f : v.ty.Contents (Elt F)) (h) :
    v.readAt (Elt F) (Rect.unit (s := S8x3072) ![0, 0] S8x3072.size h).toLoadRect f = v.read (Elt F) f :=
  (readAt_eq_ld v f _).trans (ld_unit_zero (S := S8x3072) zeros2 h _)

/-- A store of a whole buffer leaves its payload. -/
theorem read_stored_any {S : Shape} {e : EltTy} (v : View sig .tc sp S e) (f : v.ty.Contents (Elt F)) {off : Fin S.rank → ℕ}
    (h0 : off = fun _ => 0) (h) (w : S.Idx → Elt F e) (L : List (Piece (Elt F) S e)) :
    v.read (Elt F) (v.writes (Elt F) f (⟨Rect.unit (s := S) off S.size h, w⟩ :: L)) = w :=
  (read_writes_eq_canon v f _ fun y => ⟨_, List.mem_cons_self, mem_set_unit_zero h0 h y⟩).trans (canon_cons_unit_zero h0 h w L)

theorem read_stored (v : View sig .tc sp S8x3072 .f32) (f : v.ty.Contents (Elt F)) (h) (w : S8x3072.Idx → Elt F .f32)
    (L : List (Piece (Elt F) S8x3072 .f32)) :
    v.read (Elt F) (v.writes (Elt F) f (⟨Rect.unit (s := S8x3072) ![0, 0] S8x3072.size h, w⟩ :: L)) = w :=
  read_stored_any v f zeros2 h w L

theorem load_whole' (v : View sig .tc sp S8x3072 .f32) (f : v.ty.Contents (Elt F)) (h) :
    v.readAt (Elt F) (Rect.unit (s := S8x3072) ![0, 0] ![8, 3072] h).toLoadRect f = v.read (Elt F) f := load_whole v f h

/-- A whole load after a whole store reads the payload. -/
theorem load_stored (v : View sig .tc sp S8x3072 .f32) (h h') (w : S8x3072.Idx → Elt F .f32) (L : List (Piece (Elt F) S8x3072 .f32)) :
    v.readCov ((⟨Rect.unit (s := S8x3072) ![0, 0] ![8, 3072] h, w⟩ : Piece (Elt F) S8x3072 .f32) :: L)
      (Rect.unit (s := S8x3072) ![0, 0] ![8, 3072] h').toLoadRect = w :=
  (load_whole v _ h').trans (read_stored v _ h w L)

/-- A load of eight rows of a row table reads the named row group. -/
theorem load_rows (v : View sig .tc sp S3072x128 .f32) (f : v.ty.Contents (Elt F)) (w : BitVec 32) (hw : GroupWord w) (h) :
    v.readAt (Elt F) (Rect.unit (s := S3072x128) (k0_off3 w) S8x128.size h).toLoadRect f = rowsAt (v.read (Elt F) f) w := by
  rw [readAt_eq_ld]
  funext y
  have e : (w * 8#32).toNat = 8 * w.toNat := by
    unfold GroupWord at hw
    rw [BitVec.toNat_mul]; simp; omega
  refine congrArg (v.read (Elt F) f) (funext fun a => Fin.ext ?_)
  unfold GroupWord at hw
  match a with
  | ⟨0, _⟩ =>
    have h0 : (y 0).val < 8 := (y 0).isLt
    show (w * 8#32).toNat + 1 * (y 0).val = (8 * w.toNat + (y 0).val) % 3072
    rw [e]; omega
  | ⟨1, _⟩ =>
    show 0 + 1 * (y 1).val = (y 1).val
    omega

theorem load_word (v : View sig .tc sp S4x384 .i32) (f : v.ty.Contents (Elt F)) (b : Fin 4) (n : ℕ) (off : Fin 2 → ℕ) (hn : off = ![b.val, n]) (h) (h1) :
    v.readAt (Elt F) (Rect.unit (s := S4x384) off S1x1.size h).toLoadRect f (Shape.Idx.first h1) = word (v.read (Elt F) f) b n := by
  subst hn
  have hn' : n + 1 ≤ 384 := h 1
  rw [readAt_eq_ld]
  refine congrArg (v.read (Elt F) f) (funext fun a => Fin.ext ?_)
  match a with
  | ⟨0, _⟩ => rfl
  | ⟨1, _⟩ =>
    show n + 1 * 0 = n % 384
    omega

end Loads

section Trip

variable (c : Dev nD) (i : grid0.Coords)
  (arg1 : Memref sig .tc .smem S4x384 .i32) (harg1 : arg1.IsWhole) (arg2 : Memref sig .tc .smem S4 .i32) (harg2 : arg2.IsWhole) (arg3 : Memref sig .tc .vmem S1x4x3072 .f32) (harg3 : arg3.IsWhole) (arg4 : Memref sig .tc .vmem S4x3072 .f32) (harg4 : arg4.IsWhole) (arg5 : Memref sig .tc .vmem S1x1x3072 .f32) (harg5 : arg5.IsWhole) (arg6 : Memref sig .tc .vmem S1x32x4 .f32) (harg6 : arg6.IsWhole) (arg7 : Memref sig .tc .vmem S1x1x128 .f32) (harg7 : arg7.IsWhole) (arg8 : Memref sig .tc .vmem S8x3072 .f32) (harg8 : arg8.IsWhole) (arg9 : Memref sig .tc .vmem S8x3072 .f32) (harg9 : arg9.IsWhole) (arg10 : Memref sig .tc .vmem S8x3072 .f32) (harg10 : arg10.IsWhole) (arg11 : Memref sig .tc .vmem S8x3072 .f32) (harg11 : arg11.IsWhole) (arg12 : Memref sig .tc .vmem S8x3072 .f32) (harg12 : arg12.IsWhole) (arg13 : Memref sig .tc .vmem S8x3072 .f32) (harg13 : arg13.IsWhole) (arg14 : Memref sig .tc .vmem S8x3072 .f32) (harg14 : arg14.IsWhole) (arg15 : Memref sig .tc .vmem S32x3072 .f32) (harg15 : arg15.IsWhole) (arg16 : Memref sig .tc .vmem S8x3072 .f32) (harg16 : arg16.IsWhole) (arg17 : Memref sig .tc .vmem S8x3072 .f32) (harg17 : arg17.IsWhole) (arg18 : Memref sig .tc .vmem S3072x128 .f32) (harg18 : arg18.IsWhole) (arg19 : Memref sig .tc .vmem S3072x128 .f32) (harg19 : arg19.IsWhole) (arg20 : Memref sig .tc .vmem S3072x128 .f32) (harg20 : arg20.IsWhole) (arg21 : Memref sig .tc .vmem S3072x128 .f32) (harg21 : arg21.IsWhole) (arg22 : Memref sig .tc .vmem S3072x128 .f32) (harg22 : arg22.IsWhole)
  (arg0 : BitVec 32) (v1477 : Elt F .i32) (hw1 : k0_chk1 i v1477)

abbrev body1 (k : Fin (k0_t1_loop v1477).trips) (acc : BitVec 32) : Prog (TpuEff nD τ sig (Elt F) Λ₀ .tc) (BitVec 32) :=
  Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v1477 hw1 0#32 k acc

abbrev res (X1 : Buf (Elt F) (arg1.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ)))
    (X18 : Buf (Elt F) (arg18.view.loc (c : Thread nD τ))) (X19 : Buf (Elt F) (arg19.view.loc (c : Thread nD τ)))
    (X20 : Buf (Elt F) (arg20.view.loc (c : Thread nD τ))) (X21 : Buf (Elt F) (arg21.view.loc (c : Thread nD τ)))
    (X22 : Buf (Elt F) (arg22.view.loc (c : Thread nD τ))) : sProp 𝕄 :=
  iprop((arg1.view.loc (c : Thread nD τ) ↦[arg1.view.set]{fullShare} X1)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22))

variable (X1 : Buf (Elt F) (arg1.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ)))
    (X18 : Buf (Elt F) (arg18.view.loc (c : Thread nD τ))) (X19 : Buf (Elt F) (arg19.view.loc (c : Thread nD τ)))
    (X20 : Buf (Elt F) (arg20.view.loc (c : Thread nD τ))) (X21 : Buf (Elt F) (arg21.view.loc (c : Thread nD τ)))
    (X22 : Buf (Elt F) (arg22.view.loc (c : Thread nD τ)))

abbrev resX : sProp 𝕄 :=
  res c arg1 arg8 arg9 arg10 arg11 arg12 arg18 arg19 arg20 arg21 arg22 X1 X8 X9 X10 X11 X12 X18 X19 X20 X21 X22

/-- The accumulated overlaps before trip `k`, from `b0` at the loop's entry. -/
abbrev stB (b0 : Vec F S8x3072 .f32) (k : ℕ) : Vec F S8x3072 .f32 :=
  accB (arg18.view.read (Elt F) X18) (arg19.view.read (Elt F) X19) (arg20.view.read (Elt F) X20) (arg21.view.read (Elt F) X21)
    (arg22.view.read (Elt F) X22) (arg8.view.read (Elt F) X8) (arg9.view.read (Elt F) X9) (arg10.view.read (Elt F) X10)
    (arg11.view.read (Elt F) X11) (arg12.view.read (Elt F) X12) (word (arg1.view.read (Elt F) X1) (i 0)) b0 (4 * k)

/-- The accumulated counts before trip `k`, from `b0` at the loop's entry. -/
abbrev stN (b0 : Vec F S8x3072 .f32) (k : ℕ) : Vec F S8x3072 .f32 :=
  accN (arg18.view.read (Elt F) X18) (arg19.view.read (Elt F) X19) (arg20.view.read (Elt F) X20) (arg21.view.read (Elt F) X21)
    (arg22.view.read (Elt F) X22) (arg8.view.read (Elt F) X8) (arg9.view.read (Elt F) X9) (arg10.view.read (Elt F) X10)
    (arg11.view.read (Elt F) X11) (arg12.view.read (Elt F) X12) (word (arg1.view.read (Elt F) X1) (i 0)) b0 (4 * k)

set_option maxHeartbeats 2000000 in
/-- One trip of the loop over the list. -/
theorem trip (k : Fin (k0_t1_loop v1477).trips) (acc : BitVec 32) (hk : k.val < 96)
    (hword : ∀ y : S4x384.Idx, GroupWord (arg1.view.read (Elt F) X1 y)) (b0 n0 : Vec F S8x3072 .f32)
    (f16 : Buf (Elt F) (arg16.view.loc (c : Thread nD τ))) (f17 : Buf (Elt F) (arg17.view.loc (c : Thread nD τ)))
    (h16 : arg16.view.read (Elt F) f16 = stB c i arg1 arg8 arg9 arg10 arg11 arg12 arg18 arg19 arg20 arg21 arg22 X1 X8 X9 X10 X11 X12 X18 X19 X20 X21 X22 b0 k.val)
    (h17 : arg17.view.read (Elt F) f17 = stN c i arg1 arg8 arg9 arg10 arg11 arg12 arg18 arg19 arg20 arg21 arg22 X1 X8 X9 X10 X11 X12 X18 X19 X20 X21 X22 n0 k.val) :
    iprop(resX c arg1 arg8 arg9 arg10 arg11 arg12 arg18 arg19 arg20 arg21 arg22 X1 X8 X9 X10 X11 X12 X18 X19 X20 X21 X22
      ∗ (arg16.view.loc (c : Thread nD τ) ↦[arg16.view.set]{fullShare} f16)
      ∗ (arg17.view.loc (c : Thread nD τ) ↦[arg17.view.set]{fullShare} f17))
    ⊢ wp frame (wpE (defs₀ (F := F)) 𝒱₀ (c : Thread nD τ) none) Set.univ
      (body1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v1477 hw1 k acc)
      (fun _ => iprop(resX c arg1 arg8 arg9 arg10 arg11 arg12 arg18 arg19 arg20 arg21 arg22 X1 X8 X9 X10 X11 X12 X18 X19 X20 X21 X22
      ∗ (∃ f, (arg16.view.loc (c : Thread nD τ) ↦[arg16.view.set]{fullShare} f)
          ∗ ⌜arg16.view.read (Elt F) f = stB c i arg1 arg8 arg9 arg10 arg11 arg12 arg18 arg19 arg20 arg21 arg22 X1 X8 X9 X10 X11 X12 X18 X19 X20 X21 X22 b0 (k.val + 1)⌝)
      ∗ (∃ f, (arg17.view.loc (c : Thread nD τ) ↦[arg17.view.set]{fullShare} f)
          ∗ ⌜arg17.view.read (Elt F) f = stN c i arg1 arg8 arg9 arg10 arg11 arg12 arg18 arg19 arg20 arg21 arg22 X1 X8 X9 X10 X11 X12 X18 X19 X20 X21 X22 n0 (k.val + 1)⌝))) := by
  have w2 := fun h h1 => load_word arg1.view X1 (i 0) (4 * k.val) (k0_off2 i v1477 k) (off2_eq i v1477 k hk) h h1
  have w4 := fun h h1 => load_word arg1.view X1 (i 0) (4 * k.val + 1) (k0_off4 i v1477 k) (off4_eq i v1477 k hk) h h1
  have w6 := fun h h1 => load_word arg1.view X1 (i 0) (4 * k.val + 2) (k0_off6 i v1477 k) (off6_eq i v1477 k hk) h h1
  have w8 := fun h h1 => load_word arg1.view X1 (i 0) (4 * k.val + 3) (k0_off8 i v1477 k) (off8_eq i v1477 k hk) h h1
  iintro ⟨⟨H1, H8, H9, H10, H11, H12, H18, H19, H20, H21, H22⟩, H16, H17⟩
  dsimp only [body1]
  unfold Gen.k0_t1_body
  set_option sl_exec.resultNames true in
  sl_exec_parts (disch := first | (as_aux_lemma => exact chk2_of _ (hword _)) | (as_aux_lemma => exact chk3_of _ (hword _)) | (as_aux_lemma => exact chk4_of _ (hword _)) | (as_aux_lemma => exact chk5_of _ (hword _)))
  sl_step
  have e1 : trip.sl.v1533 c i arg1 v1477 hw1 X1 k = word (arg1.view.read (Elt F) X1) (i 0) (4 * k.val) := w2 _ _
  have e2 : trip.sl.v1591 c i arg1 v1477 hw1 X1 k = word (arg1.view.read (Elt F) X1) (i 0) (4 * k.val + 1) := w4 _ _
  have e3 : trip.sl.v1649 c i arg1 v1477 hw1 X1 k = word (arg1.view.read (Elt F) X1) (i 0) (4 * k.val + 2) := w6 _ _
  have e4 : trip.sl.v1707 c i arg1 v1477 hw1 X1 k = word (arg1.view.read (Elt F) X1) (i 0) (4 * k.val + 3) := w8 _ _
  have r1 : ∀ (v : View sig .tc .vmem S3072x128 .f32) (f : v.ty.Contents (Elt F)) (h),
      v.readAt (Elt F) (Rect.unit (s := S3072x128) (k0_off3 (trip.sl.v1533 c i arg1 v1477 hw1 X1 k)) ![8, 128] h).toLoadRect f
        = rowsAt (v.read (Elt F) f) (word (arg1.view.read (Elt F) X1) (i 0) (4 * k.val)) := fun v f h =>
    (load_rows v f (trip.sl.v1533 c i arg1 v1477 hw1 X1 k) (hword _) h).trans (congrArg (rowsAt (v.read (Elt F) f)) e1)
  have r2 : ∀ (v : View sig .tc .vmem S3072x128 .f32) (f : v.ty.Contents (Elt F)) (h),
      v.readAt (Elt F) (Rect.unit (s := S3072x128) (k0_off5 (trip.sl.v1591 c i arg1 v1477 hw1 X1 k)) ![8, 128] h).toLoadRect f
        = rowsAt (v.read (Elt F) f) (word (arg1.view.read (Elt F) X1) (i 0) (4 * k.val + 1)) := fun v f h =>
    (load_rows v f (trip.sl.v1591 c i arg1 v1477 hw1 X1 k) (hword _) h).trans (congrArg (rowsAt (v.read (Elt F) f)) e2)
  have r3 : ∀ (v : View sig .tc .vmem S3072x128 .f32) (f : v.ty.Contents (Elt F)) (h),
      v.readAt (Elt F) (Rect.unit (s := S3072x128) (k0_off7 (trip.sl.v1649 c i arg1 v1477 hw1 X1 k)) ![8, 128] h).toLoadRect f
        = rowsAt (v.read (Elt F) f) (word (arg1.view.read (Elt F) X1) (i 0) (4 * k.val + 2)) := fun v f h =>
    (load_rows v f (trip.sl.v1649 c i arg1 v1477 hw1 X1 k) (hword _) h).trans (congrArg (rowsAt (v.read (Elt F) f)) e3)
  have r4 : ∀ (v : View sig .tc .vmem S3072x128 .f32) (f : v.ty.Contents (Elt F)) (h),
      v.readAt (Elt F) (Rect.unit (s := S3072x128) (k0_off9 (trip.sl.v1707 c i arg1 v1477 hw1 X1 k)) ![8, 128] h).toLoadRect f
        = rowsAt (v.read (Elt F) f) (word (arg1.view.read (Elt F) X1) (i 0) (4 * k.val + 3)) := fun v f h =>
    (load_rows v f (trip.sl.v1707 c i arg1 v1477 hw1 X1 k) (hword _) h).trans (congrArg (rowsAt (v.read (Elt F) f)) e4)
  isplitl [H1 H8 H9 H10 H11 H12 H18 H19 H20 H21 H22]
  · sl_close
  isplitl [H16]
  · iexists _
    isplitl [H16]
    · iexact H16
    ipureintro
    rw [read_stored]
    dsimp only [trip.sl.v1746, trip.sl.H16_3, trip.sl.v1711, trip.sl.H16_2, trip.sl.v1661, trip.sl.v1670, trip.sl.v1677, trip.sl.v1688, trip.sl.H16_1, trip.sl.v1595, trip.sl.v1597, trip.sl.v1599, trip.sl.v1601, trip.sl.v1603, trip.sl.v1630, trip.sl.v1564, trip.sl.v1565, trip.sl.v1566, trip.sl.v1693, trip.sl.v1713, trip.sl.v1715, trip.sl.v1635, trip.sl.v1640]
    simp only [r1, r2, r3, r4, load_whole', load_stored, h16]
    rfl
  · iexists _
    isplitl [H17]
    · iexact H17
    ipureintro
    rw [read_stored]
    dsimp only [trip.sl.v1745, trip.sl.v1751, trip.sl.H17_3, trip.sl.H17_2, trip.sl.H17_1, trip.sl.v1711, trip.sl.v1661, trip.sl.v1670, trip.sl.v1677, trip.sl.v1688, trip.sl.v1595, trip.sl.v1597, trip.sl.v1599, trip.sl.v1601, trip.sl.v1603, trip.sl.v1630, trip.sl.v1564, trip.sl.v1565, trip.sl.v1566, trip.sl.v1693, trip.sl.v1713, trip.sl.v1715, trip.sl.v1635, trip.sl.v1640]
    simp only [r1, r2, r3, r4, load_whole', load_stored, h17]
    rfl

end Trip

end Cert.Proof.KernelIdeal

end

end
-- ==== Proof.LoopIdeal.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.TripIdeal
public import Idealize.ShloMosaic.Lib.LoopRemainder
public import Idealize.ShloMosaic.Lib.Pipeline.FrameBody
public import Idealize.ShloMosaic.Lib.Pipeline.Value
public import Idealize.ShloMosaic.Lib.ValueIdx

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.ShloMosaic.ValueIdx (ix2)
open Idealize.ShloMosaic.View
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The loop over the list of row groups -/

section Loop

variable (c : Dev nD) (i : grid0.Coords)
  (arg1 : Memref sig .tc .smem S4x384 .i32) (harg1 : arg1.IsWhole) (arg2 : Memref sig .tc .smem S4 .i32) (harg2 : arg2.IsWhole) (arg3 : Memref sig .tc .vmem S1x4x3072 .f32) (harg3 : arg3.IsWhole) (arg4 : Memref sig .tc .vmem S4x3072 .f32) (harg4 : arg4.IsWhole) (arg5 : Memref sig .tc .vmem S1x1x3072 .f32) (harg5 : arg5.IsWhole) (arg6 : Memref sig .tc .vmem S1x32x4 .f32) (harg6 : arg6.IsWhole) (arg7 : Memref sig .tc .vmem S1x1x128 .f32) (harg7 : arg7.IsWhole) (arg8 : Memref sig .tc .vmem S8x3072 .f32) (harg8 : arg8.IsWhole) (arg9 : Memref sig .tc .vmem S8x3072 .f32) (harg9 : arg9.IsWhole) (arg10 : Memref sig .tc .vmem S8x3072 .f32) (harg10 : arg10.IsWhole) (arg11 : Memref sig .tc .vmem S8x3072 .f32) (harg11 : arg11.IsWhole) (arg12 : Memref sig .tc .vmem S8x3072 .f32) (harg12 : arg12.IsWhole) (arg13 : Memref sig .tc .vmem S8x3072 .f32) (harg13 : arg13.IsWhole) (arg14 : Memref sig .tc .vmem S8x3072 .f32) (harg14 : arg14.IsWhole) (arg15 : Memref sig .tc .vmem S32x3072 .f32) (harg15 : arg15.IsWhole) (arg16 : Memref sig .tc .vmem S8x3072 .f32) (harg16 : arg16.IsWhole) (arg17 : Memref sig .tc .vmem S8x3072 .f32) (harg17 : arg17.IsWhole) (arg18 : Memref sig .tc .vmem S3072x128 .f32) (harg18 : arg18.IsWhole) (arg19 : Memref sig .tc .vmem S3072x128 .f32) (harg19 : arg19.IsWhole) (arg20 : Memref sig .tc .vmem S3072x128 .f32) (harg20 : arg20.IsWhole) (arg21 : Memref sig .tc .vmem S3072x128 .f32) (harg21 : arg21.IsWhole) (arg22 : Memref sig .tc .vmem S3072x128 .f32) (harg22 : arg22.IsWhole)
  (arg0 : BitVec 32) (v1477 : Elt F .i32) (hw1 : k0_chk1 i v1477)

variable (X1 : Buf (Elt F) (arg1.view.loc (c : Thread nD τ)))
    (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ)))
    (X12 : Buf (Elt F) (arg12.view.loc (c : Thread nD τ)))
    (X18 : Buf (Elt F) (arg18.view.loc (c : Thread nD τ))) (X19 : Buf (Elt F) (arg19.view.loc (c : Thread nD τ)))
    (X20 : Buf (Elt F) (arg20.view.loc (c : Thread nD τ))) (X21 : Buf (Elt F) (arg21.view.loc (c : Thread nD τ)))
    (X22 : Buf (Elt F) (arg22.view.loc (c : Thread nD τ)))

variable (f16 : Buf (Elt F) (arg16.view.loc (c : Thread nD τ))) (f17 : Buf (Elt F) (arg17.view.loc (c : Thread nD τ)))

/-- The overlap accumulator's contents before trip `k`, `f16` at the loop's entry. -/
def cB : ℕ → Buf (Elt F) (arg16.view.loc (c : Thread nD τ))
  | 0 => f16
  | k + 1 => harg16.unread (stB c i arg1 arg8 arg9 arg10 arg11 arg12 arg18 arg19 arg20 arg21 arg22 X1 X8 X9 X10 X11 X12 X18 X19 X20 X21 X22 (arg16.view.read (Elt F) f16) (k + 1))

/-- The count accumulator's contents before trip `k`, `f17` at the loop's entry. -/
def cN : ℕ → Buf (Elt F) (arg17.view.loc (c : Thread nD τ))
  | 0 => f17
  | k + 1 => harg17.unread (stN c i arg1 arg8 arg9 arg10 arg11 arg12 arg18 arg19 arg20 arg21 arg22 X1 X8 X9 X10 X11 X12 X18 X19 X20 X21 X22 (arg17.view.read (Elt F) f17) (k + 1))

theorem read_cB (k : ℕ) : arg16.view.read (Elt F) (cB c i arg1 arg8 arg9 arg10 arg11 arg12 arg16 harg16 arg18 arg19 arg20 arg21 arg22 X1 X8 X9 X10 X11 X12 X18 X19 X20 X21 X22 f16 k)
    = stB c i arg1 arg8 arg9 arg10 arg11 arg12 arg18 arg19 arg20 arg21 arg22 X1 X8 X9 X10 X11 X12 X18 X19 X20 X21 X22 (arg16.view.read (Elt F) f16) k := by
  cases k with
  | zero => rfl
  | succ k => exact harg16.read_unread _

theorem read_cN (k : ℕ) : arg17.view.read (Elt F) (cN c i arg1 arg8 arg9 arg10 arg11 arg12 arg17 harg17 arg18 arg19 arg20 arg21 arg22 X1 X8 X9 X10 X11 X12 X18 X19 X20 X21 X22 f17 k)
    = stN c i arg1 arg8 arg9 arg10 arg11 arg12 arg18 arg19 arg20 arg21 arg22 X1 X8 X9 X10 X11 X12 X18 X19 X20 X21 X22 (arg17.view.read (Elt F) f17) k := by
  cases k with
  | zero => rfl
  | succ k => exact harg17.read_unread _

set_option warn.classDefReducibility false in
/-- The main loop's invariant: the buffers it only reads as they were, the two accumulators after the trips so far, at
    most 96 trips, every listed word naming a row group. -/
@[sl_loop] noncomputable def loopInv1 (init : BitVec 32) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v1477 hw1 0#32 init where
  inv k acc := iprop(⌜(k0_t1_loop v1477).trips ≤ 96 ∧ ∀ y : S4x384.Idx, GroupWord (arg1.view.read (Elt F) X1 y)⌝
    ∗ resX c arg1 arg8 arg9 arg10 arg11 arg12 arg18 arg19 arg20 arg21 arg22 X1 X8 X9 X10 X11 X12 X18 X19 X20 X21 X22
    ∗ (arg16.view.loc (c : Thread nD τ) ↦[arg16.view.set]{fullShare} cB c i arg1 arg8 arg9 arg10 arg11 arg12 arg16 harg16 arg18 arg19 arg20 arg21 arg22 X1 X8 X9 X10 X11 X12 X18 X19 X20 X21 X22 f16 k)
    ∗ (arg17.view.loc (c : Thread nD τ) ↦[arg17.view.set]{fullShare} cN c i arg1 arg8 arg9 arg10 arg11 arg12 arg17 harg17 arg18 arg19 arg20 arg21 arg22 X1 X8 X9 X10 X11 X12 X18 X19 X20 X21 X22 f17 k))
  step k acc := by
    iintro ⟨%hp, HR, H16, H17⟩
    obtain ⟨ht, hword⟩ := hp
    iapply (wp_wand_r Idealize.ShloMosaic.frame (wpE (defs₀ (F := F)) 𝒱₀ (c : Thread nD τ) none) Set.univ)
    isplitl [HR H16 H17]
    · iapply (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v1477 hw1 X1 X8 X9 X10 X11 X12 X18 X19 X20 X21 X22 k acc (lt_of_lt_of_le k.isLt ht) hword
        (arg16.view.read (Elt F) f16) (arg17.view.read (Elt F) f17) _ _
        (read_cB c i arg1 arg8 arg9 arg10 arg11 arg12 arg16 harg16 arg18 arg19 arg20 arg21 arg22 X1 X8 X9 X10 X11 X12 X18 X19 X20 X21 X22 f16 k.val)
        (read_cN c i arg1 arg8 arg9 arg10 arg11 arg12 arg17 harg17 arg18 arg19 arg20 arg21 arg22 X1 X8 X9 X10 X11 X12 X18 X19 X20 X21 X22 f17 k.val))
      isplitl [HR]; · iexact HR
      isplitl [H16]; · iexact H16
      iexact H17
    · iintro %_ ⟨HR, ⟨%g16, H16, %h16⟩, ⟨%g17, H17, %h17⟩⟩
      have e16 : g16 = cB c i arg1 arg8 arg9 arg10 arg11 arg12 arg16 harg16 arg18 arg19 arg20 arg21 arg22 X1 X8 X9 X10 X11 X12 X18 X19 X20 X21 X22 f16 (k.val + 1) :=
        (harg16.unread_read g16).symm.trans (congrArg harg16.unread h16)
      have e17 : g17 = cN c i arg1 arg8 arg9 arg10 arg11 arg12 arg17 harg17 arg18 arg19 arg20 arg21 arg22 X1 X8 X9 X10 X11 X12 X18 X19 X20 X21 X22 f17 (k.val + 1) :=
        (harg17.unread_read g17).symm.trans (congrArg harg17.unread h17)
      rw [← e16, ← e17]
      isplitr; · ipureintro; exact ⟨ht, hword⟩
      isplitl [HR]; · iexact HR
      isplitl [H16]; · iexact H16
      iexact H17

end Loop

end Cert.Proof.KernelIdeal

end

end
-- ==== Proof.ValsIdeal.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.TripIdeal
public import Idealize.ShloMosaic.Lib.LoopRemainder
public import Idealize.ShloMosaic.Lib.Pipeline.FrameBody
public import Idealize.ShloMosaic.Lib.Pipeline.Value
public import Idealize.ShloMosaic.Lib.ValueIdx

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.ShloMosaic.ValueIdx (ix2)
open Idealize.ShloMosaic.View
open Idealize.SL.BI.BIBase Idealize.SL.BI.Laws Idealize.SL.ProofMode Idealize.SL.Sem

variable {F : FTy → Type} [FloatOps F]

/-! ## What the body leaves in its output block, from its six input blocks -/

/-- A row table: entry `(r, l)` is entry `r` of a row of 3072 values, whatever the lane `l`. -/
def rowTab (v : Vec F S1x3072 .f32) : S3072x128.Idx → Elt F .f32 := fun y => v (ix2 0 (y 0))

section Blocks

variable (x3 : Vec F S1x4x3072 .f32) (x4 : Vec F S4x3072 .f32) (x5 : Vec F S1x1x3072 .f32) (x6 : Vec F S1x32x4 .f32)

/-- The decoded boxes' left, top, right and bottom edges, and their areas. -/
def bx1 : FVec F S1x3072 .f32 := Gen.k0_pay46 x3 x4
def by1 : FVec F S1x3072 .f32 := Gen.k0_pay47 x3 x4
def bx2 : FVec F S1x3072 .f32 := Gen.k0_pay48 x3 x4
def by2 : FVec F S1x3072 .f32 := Gen.k0_pay49 x3 x4
def bar : FVec F S1x3072 .f32 := Gen.k0_pay50 x3 x4
/-- The areas, `−∞` where the mask is off. -/
def bam : FVec F S1x3072 .f32 := Gen.k0_pay52 (bar x3 x4) x5

/-- The same as columns, repeated over eight sublanes. -/
def cX1 : Vec F S8x3072 .f32 := Gen.k0_pay53 (bx1 x3 x4)
def cY1 : Vec F S8x3072 .f32 := Gen.k0_pay54 (by1 x3 x4)
def cX2 : Vec F S8x3072 .f32 := Gen.k0_pay55 (bx2 x3 x4)
def cY2 : Vec F S8x3072 .f32 := Gen.k0_pay56 (by2 x3 x4)
def cAM : Vec F S8x3072 .f32 := Gen.k0_pay57 (bar x3 x4) x5
def cAT : Vec F S8x3072 .f32 := Gen.k0_pay58 (bar x3 x4)
def cMK : Vec F S8x3072 .f32 := Gen.k0_pay60 (Gen.k0_pay59 x5)

/-- The sublane numbers. -/
def sub8 : IVec S8x3072 32 := iota .tc S8x3072 32 [0] Gen.iota_S8x3072_d0_w32
/-- The ground boxes as a table of 32 rows. -/
def gtb : FVec F S32x4 .f32 := Gen.k0_pay183 x6

/-- The masked overlaps of ground boxes 0 … 7. -/
def gov0 : Vec F S8x3072 .f32 :=
  Gen.k0_pay194 (Gen.k0_pay189 x6) (Gen.k0_pay190 x6 (cX2 x3 x4) (cX1 x3 x4)) (Gen.k0_pay191 x6 (cY2 x3 x4)) (Gen.k0_pay192 x6)
    (cY1 x3 x4) (cAT x3 x4) (cMK x5)
def top0 : FVec F S1x3072 .f32 :=
  Gen.k0_pay195 (Gen.k0_pay189 x6) (Gen.k0_pay190 x6 (cX2 x3 x4) (cX1 x3 x4)) (Gen.k0_pay191 x6 (cY2 x3 x4)) (Gen.k0_pay192 x6)
    (cY1 x3 x4) (cAT x3 x4) (cMK x5)
def ami0 : IVec S1x3072 32 :=
  Gen.k0_pay196 sub8 (Gen.k0_pay189 x6) (Gen.k0_pay190 x6 (cX2 x3 x4) (cX1 x3 x4)) (Gen.k0_pay191 x6 (cY2 x3 x4)) (Gen.k0_pay192 x6)
    (cY1 x3 x4) (cAT x3 x4) (cMK x5)
/-- Of ground boxes 8 … 15. -/
def gov1 : Vec F S8x3072 .f32 :=
  Gen.k0_pay206 (Gen.k0_pay199 (gtb x6)) (Gen.k0_pay201 (gtb x6)) (Gen.k0_pay202 (gtb x6)) (Gen.k0_pay203 (gtb x6) (cX2 x3 x4))
    (Gen.k0_pay204 (gtb x6)) (cX1 x3 x4) (cY2 x3 x4) (cY1 x3 x4) (cAT x3 x4) (cMK x5)
def top1' : FVec F S1x3072 .f32 :=
  Gen.k0_pay207 (Gen.k0_pay199 (gtb x6)) (Gen.k0_pay201 (gtb x6)) (Gen.k0_pay202 (gtb x6)) (Gen.k0_pay203 (gtb x6) (cX2 x3 x4))
    (Gen.k0_pay204 (gtb x6)) (cX1 x3 x4) (cY2 x3 x4) (cY1 x3 x4) (cAT x3 x4) (cMK x5)
def ami1' : IVec S1x3072 32 :=
  Gen.k0_pay208 sub8 (Gen.k0_pay199 (gtb x6)) (Gen.k0_pay201 (gtb x6)) (Gen.k0_pay202 (gtb x6)) (Gen.k0_pay203 (gtb x6) (cX2 x3 x4))
    (Gen.k0_pay204 (gtb x6)) (cX1 x3 x4) (cY2 x3 x4) (cY1 x3 x4) (cAT x3 x4) (cMK x5)
def top1 : FVec F S1x3072 .f32 := Gen.k0_pay209 (top0 x3 x4 x5 x6) (top1' x3 x4 x5 x6)
def ami1 : IVec S1x3072 32 := Gen.k0_pay210 (top0 x3 x4 x5 x6) (ami0 x3 x4 x5 x6) (top1' x3 x4 x5 x6) (ami1' x3 x4 x5 x6) 8#32
/-- Of ground boxes 16 … 23. -/
def iou2 : FVec F S8x3072 .f32 := Gen.k0_pay211 (gtb x6) (cX2 x3 x4) (cX1 x3 x4) (cY2 x3 x4) (cY1 x3 x4) (cAT x3 x4)
def gov2 : Vec F S8x3072 .f32 := Gen.k0_pay213 (iou2 x3 x4 x6) (cMK x5)
def top2 : FVec F S1x3072 .f32 := Gen.k0_pay215 (top1 x3 x4 x5 x6) (iou2 x3 x4 x6) (cMK x5)
def ami2 : IVec S1x3072 32 := Gen.k0_pay216 sub8 (top1 x3 x4 x5 x6) (ami1 x3 x4 x5 x6) (iou2 x3 x4 x6) (cMK x5)
/-- Of ground boxes 24 … 31. -/
def gov3 : Vec F S8x3072 .f32 :=
  Gen.k0_pay227 (Gen.k0_pay222 (gtb x6)) (Gen.k0_pay223 (gtb x6) (cX2 x3 x4) (cX1 x3 x4)) (Gen.k0_pay224 (gtb x6) (cY2 x3 x4))
    (Gen.k0_pay225 (gtb x6)) (cY1 x3 x4) (cAT x3 x4) (cMK x5)
/-- The first ground box of greatest overlap. -/
def best1 : IVec S1x3072 32 :=
  Gen.k0_pay228 sub8 (top2 x3 x4 x5 x6) (ami2 x3 x4 x5 x6) (Gen.k0_pay222 (gtb x6)) (Gen.k0_pay223 (gtb x6) (cX2 x3 x4) (cX1 x3 x4))
    (Gen.k0_pay224 (gtb x6) (cY2 x3 x4)) (Gen.k0_pay225 (gtb x6)) (cY1 x3 x4) (cAT x3 x4) (cMK x5)
def sec0 : FVec F S8x3072 .f32 :=
  Gen.k0_pay229 sub8 (top2 x3 x4 x5 x6) (ami2 x3 x4 x5 x6) (Gen.k0_pay222 (gtb x6)) (Gen.k0_pay223 (gtb x6) (cX2 x3 x4) (cX1 x3 x4))
    (Gen.k0_pay224 (gtb x6) (cY2 x3 x4)) (Gen.k0_pay225 (gtb x6)) (cY1 x3 x4) (cAT x3 x4) (cMK x5) (gov0 x3 x4 x5 x6)
def stop0 : FVec F S1x3072 .f32 :=
  Gen.k0_pay230 sub8 (top2 x3 x4 x5 x6) (ami2 x3 x4 x5 x6) (Gen.k0_pay222 (gtb x6)) (Gen.k0_pay223 (gtb x6) (cX2 x3 x4) (cX1 x3 x4))
    (Gen.k0_pay224 (gtb x6) (cY2 x3 x4)) (Gen.k0_pay225 (gtb x6)) (cY1 x3 x4) (cAT x3 x4) (cMK x5) (gov0 x3 x4 x5 x6)
def stop1 : FVec F S1x3072 .f32 := Gen.k0_pay233 sub8 (best1 x3 x4 x5 x6) (stop0 x3 x4 x5 x6) (gov1 x3 x4 x5 x6)
def sarg1 : IVec S1x3072 32 := Gen.k0_pay234 sub8 (best1 x3 x4 x5 x6) (sec0 x3 x4 x5 x6) (stop0 x3 x4 x5 x6) (gov1 x3 x4 x5 x6)
def stop2' : FVec F S1x3072 .f32 := Gen.k0_pay236 sub8 (best1 x3 x4 x5 x6) (gov2 x3 x4 x5 x6)
def sarg2' : IVec S3072 32 := Gen.k0_pay237 sub8 (best1 x3 x4 x5 x6) (gov2 x3 x4 x5 x6)
/-- The greatest overlap once the best is set to zero, and the first ground box that has it. -/
def top : FVec F S1x3072 .f32 :=
  Gen.k0_pay241 sub8 (best1 x3 x4 x5 x6) (stop1 x3 x4 x5 x6) (stop2' x3 x4 x5 x6) (gov3 x3 x4 x5 x6)
def best2 : IVec S1x3072 32 :=
  Gen.k0_pay242 sub8 (best1 x3 x4 x5 x6) (stop1 x3 x4 x5 x6) (sarg1 x3 x4 x5 x6) (stop2' x3 x4 x5 x6) (sarg2' x3 x4 x5 x6) (gov3 x3 x4 x5 x6)

/-- The share of the second-best ground box that is covered, summed over the groups of eight. -/
def iog0 : FVec F S8x3072 .f32 :=
  Gen.k0_pay251 sub8 (best2 x3 x4 x5 x6) Gen.k0_pay243 (Gen.k0_pay246 (gtb x6)) (Gen.k0_pay248 (gtb x6)) (Gen.k0_pay249 (gtb x6))
    (Gen.k0_pay250 (gtb x6) (cX2 x3 x4) (cX1 x3 x4)) (cY2 x3 x4) (cY1 x3 x4)
def iog1 : FVec F S8x3072 .f32 :=
  Gen.k0_pay260 sub8 (best2 x3 x4 x5 x6) (iog0 x3 x4 x5 x6) (Gen.k0_pay254 (gtb x6)) (Gen.k0_pay256 (gtb x6)) (Gen.k0_pay257 (gtb x6))
    (Gen.k0_pay258 (gtb x6) (cX2 x3 x4)) (Gen.k0_pay259 (gtb x6) (cX1 x3 x4)) (cY2 x3 x4) (cY1 x3 x4)
def iog2 : FVec F S8x3072 .f32 :=
  Gen.k0_pay269 sub8 (best2 x3 x4 x5 x6) (iog1 x3 x4 x5 x6) (Gen.k0_pay263 (gtb x6)) (Gen.k0_pay265 (gtb x6)) (Gen.k0_pay266 (gtb x6))
    (Gen.k0_pay267 (gtb x6) (cX2 x3 x4)) (Gen.k0_pay268 (gtb x6)) (cX1 x3 x4) (cY2 x3 x4) (cY1 x3 x4)
/-- Where that share is over the threshold, the linear branch and the logarithm's argument. -/
def big : FVec F S1x3072 .f32 :=
  Gen.k0_pay279 sub8 (best2 x3 x4 x5 x6) (iog2 x3 x4 x5 x6) (Gen.k0_pay272 (gtb x6)) (Gen.k0_pay274 (gtb x6)) (Gen.k0_pay275 (gtb x6))
    (Gen.k0_pay276 (gtb x6) (cX2 x3 x4)) (Gen.k0_pay277 (gtb x6)) (cX1 x3 x4) (cY2 x3 x4) (cY1 x3 x4)
def over : IVec S1x3072 1 :=
  Gen.k0_pay280 sub8 (best2 x3 x4 x5 x6) (iog2 x3 x4 x5 x6) (Gen.k0_pay272 (gtb x6)) (Gen.k0_pay274 (gtb x6)) (Gen.k0_pay275 (gtb x6))
    (Gen.k0_pay276 (gtb x6) (cX2 x3 x4)) (Gen.k0_pay277 (gtb x6)) (cX1 x3 x4) (cY2 x3 x4) (cY1 x3 x4)
def lin : FVec F S1x3072 .f32 :=
  Gen.k0_pay281 sub8 (best2 x3 x4 x5 x6) (iog2 x3 x4 x5 x6) (Gen.k0_pay272 (gtb x6)) (Gen.k0_pay274 (gtb x6)) (Gen.k0_pay275 (gtb x6))
    (Gen.k0_pay276 (gtb x6) (cX2 x3 x4)) (Gen.k0_pay277 (gtb x6)) (cX1 x3 x4) (cY2 x3 x4) (cY1 x3 x4)

/-- The ground part's total and its number of terms. -/
def gtTotal : F .f32 :=
  Gen.k0_pay283 (Gen.k0_pay51 x5) (top x3 x4 x5 x6) (big x3 x4 x5 x6) (over x3 x4 x5 x6) (lin x3 x4 x5 x6) (Scalar.ofBits .f32 0xC0135D8E#32)
def gtCount : F .f32 := Gen.k0_pay284 (Gen.k0_pay51 x5) (top x3 x4 x5 x6)

/-- The two accumulators of the box part once the loop has run over the first `n` listed row groups. -/
def boxB (W : ℕ → BitVec 32) (n : ℕ) : Vec F S8x3072 .f32 :=
  accB (rowTab (bx1 x3 x4)) (rowTab (by1 x3 x4)) (rowTab (bx2 x3 x4)) (rowTab (by2 x3 x4)) (rowTab (bam x3 x4 x5))
    (cX1 x3 x4) (cY1 x3 x4) (cX2 x3 x4) (cY2 x3 x4) (cAM x3 x4 x5) W Gen.k0_pay61 n
def boxN (W : ℕ → BitVec 32) (n : ℕ) : Vec F S8x3072 .f32 :=
  accN (rowTab (bx1 x3 x4)) (rowTab (by1 x3 x4)) (rowTab (bx2 x3 x4)) (rowTab (by2 x3 x4)) (rowTab (bam x3 x4 x5))
    (cX1 x3 x4) (cY1 x3 x4) (cX2 x3 x4) (cY2 x3 x4) (cAM x3 x4 x5) W Gen.k0_pay62 n

/-- The output block at grid point `i`, from the list, the counts and the four blocks. -/
def bodyOut (i : grid0.Coords) (x1 : S4x384.Idx → Elt F .i32) (x2 : S4.Idx → Elt F .i32) : FVec F S1x1x128 .f32 :=
  Gen.k0_pay1 (gtTotal x3 x4 x5 x6) (gtCount x3 x4 x5 x6)
    (Gen.k0_pay287 (boxB x3 x4 x5 (word x1 (i 0)) (4 * (k0_t1_loop (x2 (Idealize.ShloMosaic.ValueIdx.ix1 (i 0)))).trips)))
    (Gen.k0_pay288 (boxN x3 x4 x5 (word x1 (i 0)) (4 * (k0_t1_loop (x2 (Idealize.ShloMosaic.ValueIdx.ix1 (i 0)))).trips)))

end Blocks

end Cert.Proof.KernelIdeal

end

end
-- ==== Proof.LoadsIdeal.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.ValsIdeal
public import Idealize.ShloMosaic.Lib.Pipeline.RowLoads
public import Idealize.ShloMosaic.Lib.LoopRemainder
public import Idealize.ShloMosaic.Lib.Pipeline.FrameBody
public import Idealize.ShloMosaic.Lib.Pipeline.Value
public import Idealize.ShloMosaic.Lib.ValueIdx

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.ShloMosaic.ValueIdx (ix2)
open Idealize.ShloMosaic.View
open Idealize.SL.BI.BIBase Idealize.SL.BI.Laws Idealize.SL.ProofMode Idealize.SL.Sem

variable {F : FTy → Type} [FloatOps F]

/-! ## Reading back what the body has stored -/

variable {sp : Space}

/-- A load of a whole buffer reads it. -/
theorem load_any {S : Shape} {e : EltTy} (v : View sig .tc sp S e) (f : v.ty.Contents (Elt F)) {off : Fin S.rank → ℕ}
    (h0 : off = fun _ => 0) (h) : v.readAt (Elt F) (Rect.unit (s := S) off S.size h).toLoadRect f = v.read (Elt F) f :=
  (readAt_eq_ld v f _).trans (ld_unit_zero h0 h _)

theorem zeros3 : (![0, 0, 0] : Fin 3 → ℕ) = fun _ => 0 := by
  funext a; fin_cases a <;> rfl

theorem load_in3 (v : View sig .tc sp S1x4x3072 .f32) (f : v.ty.Contents (Elt F)) (h) :
    v.readAt (Elt F) (Rect.unit (s := S1x4x3072) ![0, 0, 0] ![1, 4, 3072] h).toLoadRect f = v.read (Elt F) f := load_any v f zeros3 h
theorem load_in4 (v : View sig .tc sp S4x3072 .f32) (f : v.ty.Contents (Elt F)) (h) :
    v.readAt (Elt F) (Rect.unit (s := S4x3072) ![0, 0] ![4, 3072] h).toLoadRect f = v.read (Elt F) f := load_any v f zeros2 h
theorem load_in5 (v : View sig .tc sp S1x1x3072 .f32) (f : v.ty.Contents (Elt F)) (h) :
    v.readAt (Elt F) (Rect.unit (s := S1x1x3072) ![0, 0, 0] ![1, 1, 3072] h).toLoadRect f = v.read (Elt F) f := load_any v f zeros3 h
theorem load_in6 (v : View sig .tc sp S1x32x4 .f32) (f : v.ty.Contents (Elt F)) (h) :
    v.readAt (Elt F) (Rect.unit (s := S1x32x4) ![0, 0, 0] ![1, 32, 4] h).toLoadRect f = v.read (Elt F) f := load_any v f zeros3 h
theorem read_out (v : View sig .tc sp S1x1x128 .f32) (f : v.ty.Contents (Elt F)) (h) (w : S1x1x128.Idx → Elt F .f32) :
    v.read (Elt F) (v.writes (Elt F) f [⟨Rect.unit (s := S1x1x128) ![0, 0, 0] ![1, 1, 128] h, w⟩]) = w := read_stored_any v f zeros3 h w []

theorem read_stored_lit (v : View sig .tc sp S8x3072 .f32) (f : v.ty.Contents (Elt F)) (h) (w : S8x3072.Idx → Elt F .f32)
    (L : List (Piece (Elt F) S8x3072 .f32)) :
    v.read (Elt F) (v.writes (Elt F) f (⟨Rect.unit (s := S8x3072) ![0, 0] ![8, 3072] h, w⟩ :: L)) = w := read_stored v f h w L
theorem read_stored_one (v : View sig .tc sp S8x3072 .f32) (f : v.ty.Contents (Elt F)) (h) (w : S8x3072.Idx → Elt F .f32) :
    v.read (Elt F) (View.write (Elt F) (v.slice (Rect.unit (s := S8x3072) ![0, 0] ![8, 3072] h)) (v.writes (Elt F) f []) w Finset.univ) = w :=
  read_stored v f h w []

/-- The count the body loads is the one its grid point names. -/
theorem load_count (v : View sig .tc sp S4 .i32) (f : v.ty.Contents (Elt F)) (i : grid0.Coords) (h) (h1) :
    v.readAt (Elt F) (Rect.unit (s := S4) (k0_off1 i) S1.size h).toLoadRect f (Shape.Idx.first h1)
      = v.read (Elt F) f (Idealize.ShloMosaic.ValueIdx.ix1 (i 0)) := by
  rw [readAt_eq_ld]
  refine congrArg (v.read (Elt F) f) (funext fun a => Fin.ext ?_)
  match a with
  | ⟨0, _⟩ => exact point_word (i 0)

/-! The four row groups of the overlap buffer, stored in order: each load reads its own store. -/

section Groups

variable (v : View sig .tc sp S32x3072 .f32) (h0 h1 h2 h3) (w0 w1 w2 w3 : S8x3072.Idx → Elt F .f32)

/-- The four stores, the newest first. -/
abbrev groups : List (Piece (Elt F) S32x3072 .f32) :=
  [⟨Rect.unit (s := S32x3072) ![24, 0] ![8, 3072] h3, w3⟩, ⟨Rect.unit (s := S32x3072) ![16, 0] ![8, 3072] h2, w2⟩,
   ⟨Rect.unit (s := S32x3072) ![8, 0] ![8, 3072] h1, w1⟩, ⟨Rect.unit (s := S32x3072) ![0, 0] ![8, 3072] h0, w0⟩]

theorem load_g3 (h) : v.readCov (groups h0 h1 h2 h3 w0 w1 w2 w3) (Rect.unit (s := S32x3072) ![24, 0] ![8, 3072] h).toLoadRect = w3 := by
  rw [readCov_eq_canon']; funext j; exact canon_cons_emb _ _ _ _
theorem load_g2 (h) : v.readCov (groups h0 h1 h2 h3 w0 w1 w2 w3) (Rect.unit (s := S32x3072) ![16, 0] ![8, 3072] h).toLoadRect = w2 := by
  refine (readCov_cons_of_rows_disjoint (k := 8) (k' := 8) v 24 16 (by decide) _ _ _ _).trans ?_
  rw [readCov_eq_canon']; funext j; exact canon_cons_emb _ _ _ _
theorem load_g1 (h) : v.readCov (groups h0 h1 h2 h3 w0 w1 w2 w3) (Rect.unit (s := S32x3072) ![8, 0] ![8, 3072] h).toLoadRect = w1 := by
  refine (readCov_cons_of_rows_disjoint (k := 8) (k' := 8) v 24 8 (by decide) _ _ _ _).trans ?_
  refine (readCov_cons_of_rows_disjoint (k := 8) (k' := 8) v 16 8 (by decide) _ _ _ _).trans ?_
  rw [readCov_eq_canon']; funext j; exact canon_cons_emb _ _ _ _
theorem load_g0 (h) : v.readCov (groups h0 h1 h2 h3 w0 w1 w2 w3) (Rect.unit (s := S32x3072) ![0, 0] ![8, 3072] h).toLoadRect = w0 := by
  refine (readCov_cons_of_rows_disjoint (k := 8) (k' := 8) v 24 0 (by decide) _ _ _ _).trans ?_
  refine (readCov_cons_of_rows_disjoint (k := 8) (k' := 8) v 16 0 (by decide) _ _ _ _).trans ?_
  refine (readCov_cons_of_rows_disjoint (k := 8) (k' := 8) v 8 0 (by decide) _ _ _ _).trans ?_
  rw [readCov_eq_canon']; funext j; exact canon_cons_emb _ _ _ _

end Groups

/-! A row table is stored as 24 blocks of 128 rows. -/

theorem blk_in (k : ℕ) (h : k < 24) : S1x3072.Slices ![0, 128 * k] S1x128 := by
  refine ⟨rfl, fun a => ?_⟩
  fin_cases a
  · exact Nat.le_refl 1
  · show 128 * k + 128 ≤ 3072; omega

/-- Block `k`: the 128 entries from `128 k`, each along all 128 lanes of its row. -/
def blk (r : FVec F S1x3072 .f32) (k : ℕ) (h : k < 24) : S128x128.Idx → Elt F .f32 :=
  shapeCast S128x128 (transpose S128x128 [1, 0]
    (broadcastTo S128x128 (shapeCast S1x128 (extractStridedSlice S1x128 ![0, 128 * k] r (blk_in k h)) Gen.shapeCasts_S1x128_S1x128)
      Gen.broadcasts_S1x128_S128x128) Gen.transposes_S128x128_p1_0_S128x128) Gen.shapeCasts_S128x128_S128x128

theorem rows_in (k : ℕ) (h : k < 24) : ∀ a, (![128 * k, 0] : Fin 2 → ℕ) a + S128x128.size a ≤ S3072x128.size a := by
  intro a; fin_cases a
  · show 128 * k + 128 ≤ 3072; omega
  · exact Nat.le_refl 128

/-- The first `n` blocks' stores, the newest first. -/
def tabPieces (r : FVec F S1x3072 .f32) : (n : ℕ) → n ≤ 24 → List (Piece (Elt F) S3072x128 .f32)
  | 0, _ => []
  | k + 1, h => ⟨Rect.unit (s := S3072x128) ![128 * k, 0] S128x128.size (rows_in k h), blk r k h⟩ :: tabPieces r k (Nat.le_of_lt h)

theorem blk_apply (r : FVec F S1x3072 .f32) (k : ℕ) (h : k < 24) (x : S128x128.Idx) :
    blk r k h x = r (ix2 0 ⟨128 * k + (x 0).val, by have : (x 0).val < 128 := (x 0).isLt; omega⟩) := by
  unfold blk
  have hx : (x 0).val < 128 := (x 0).isLt
  have e1 := fun v => congrFun (shapeCast_self (s := S128x128) (α := Elt F .f32) v Gen.shapeCasts_S128x128_S128x128) x
  have e2 := fun v => shapeCast_self (s := S1x128) (α := Elt F .f32) v Gen.shapeCasts_S1x128_S1x128
  rw [e1, e2]
  refine (transpose_apply (s := S128x128) (t := S128x128) [1, 0] _ _ x (ix2 (x 1 : Fin 128) (x 0 : Fin 128)) fun b => by fin_cases b <;> rfl).trans ?_
  refine (broadcastTo_apply (s := S1x128) (t := S128x128) _ _ (ix2 (x 1 : Fin 128) (x 0 : Fin 128)) (ix2 (0 : Fin 1) (x 0 : Fin 128)) fun b => by fin_cases b <;> rfl).trans ?_
  exact extractStridedSlice_apply (s := S1x3072) (t := S1x128) ![0, 128 * k] r _ _ _ fun b => by fin_cases b <;> rfl

theorem read_tab (v : View sig .tc sp S3072x128 .f32) (f : v.ty.Contents (Elt F)) (r : FVec F S1x3072 .f32) (L) (hL : L = tabPieces r 24 (Nat.le_refl 24)) :
    v.read (Elt F) (v.writes (Elt F) f L) = rowTab r := by
  subst hL
  have cov : ∀ (n : ℕ) (hn : n ≤ 24) (y : S3072x128.Idx), (y 0).val < 128 * n → ∃ p ∈ tabPieces r n hn, y ∈ p.1.set := by
    intro n
    induction n with
    | zero => intro _ y hy; omega
    | succ k ih =>
      intro hn y hy
      by_cases hk : (y 0).val < 128 * k
      · obtain ⟨p, hp, hy'⟩ := ih (Nat.le_of_lt hn) y hk
        exact ⟨p, List.mem_cons_of_mem _ hp, hy'⟩
      · refine ⟨_, List.mem_cons_self, ?_⟩
        refine (Rect.mem_set_unit (s := S3072x128) (off := ![128 * k, 0]) (size := S128x128.size) (inb := rows_in k hn)).2 fun a => ?_
        match a with
        | ⟨0, _⟩ =>
          show 128 * k ≤ (y 0).val ∧ (y 0).val < 128 * k + 128
          omega
        | ⟨1, _⟩ => exact ⟨Nat.zero_le _, by show (y 1).val < 0 + 128; have : (y 1).val < 128 := (y 1).isLt; omega⟩
  have val : ∀ (n : ℕ) (hn : n ≤ 24), ∀ p ∈ tabPieces r n hn, ∀ x : p.1.shape.Idx, p.2 x = rowTab r (p.1.emb x) := by
    intro n
    induction n with
    | zero => intro _ p hp; cases hp
    | succ k ih =>
      intro hn p hp
      rcases List.mem_cons.1 hp with rfl | hp
      · intro x
        refine (blk_apply r k hn x).trans (congrArg r ?_)
        funext a
        match a with
        | ⟨0, _⟩ => rfl
        | ⟨1, _⟩ =>
          refine Fin.ext ?_
          show 128 * k + (x 0).val = 128 * k + 1 * (x 0).val
          omega
      · exact ih _ p hp
  have c24 : ∀ y : S3072x128.Idx, ∃ p ∈ tabPieces r 24 (Nat.le_refl 24), y ∈ p.1.set := fun y => cov 24 _ y (y 0).isLt
  rw [read_writes_eq_canon v f _ c24]
  funext y
  exact canon_apply_of_pieces (rowTab r) _ (val 24 _) y (c24 y)

end Cert.Proof.KernelIdeal

end

end
-- ==== Proof.BodyIdeal.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.LoopIdeal
public import proofs.«01_k».proof.Proof.LoadsIdeal
public import Idealize.ShloMosaic.Lib.LoopRemainder
public import Idealize.ShloMosaic.Lib.Pipeline.FrameBody
public import Idealize.ShloMosaic.Lib.Pipeline.Value
public import Idealize.ShloMosaic.Lib.ValueIdx

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.ShloMosaic.ValueIdx (ix2)
open Idealize.ShloMosaic.View
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The body -/

section Body

variable (c : Dev nD) (i : grid0.Coords)
  (arg1 : Memref sig .tc .smem S4x384 .i32) (harg1 : arg1.IsWhole) (arg2 : Memref sig .tc .smem S4 .i32) (harg2 : arg2.IsWhole) (arg3 : Memref sig .tc .vmem S1x4x3072 .f32) (harg3 : arg3.IsWhole) (arg4 : Memref sig .tc .vmem S4x3072 .f32) (harg4 : arg4.IsWhole) (arg5 : Memref sig .tc .vmem S1x1x3072 .f32) (harg5 : arg5.IsWhole) (arg6 : Memref sig .tc .vmem S1x32x4 .f32) (harg6 : arg6.IsWhole) (arg7 : Memref sig .tc .vmem S1x1x128 .f32) (harg7 : arg7.IsWhole) (arg8 : Memref sig .tc .vmem S8x3072 .f32) (harg8 : arg8.IsWhole) (arg9 : Memref sig .tc .vmem S8x3072 .f32) (harg9 : arg9.IsWhole) (arg10 : Memref sig .tc .vmem S8x3072 .f32) (harg10 : arg10.IsWhole) (arg11 : Memref sig .tc .vmem S8x3072 .f32) (harg11 : arg11.IsWhole) (arg12 : Memref sig .tc .vmem S8x3072 .f32) (harg12 : arg12.IsWhole) (arg13 : Memref sig .tc .vmem S8x3072 .f32) (harg13 : arg13.IsWhole) (arg14 : Memref sig .tc .vmem S8x3072 .f32) (harg14 : arg14.IsWhole) (arg15 : Memref sig .tc .vmem S32x3072 .f32) (harg15 : arg15.IsWhole) (arg16 : Memref sig .tc .vmem S8x3072 .f32) (harg16 : arg16.IsWhole) (arg17 : Memref sig .tc .vmem S8x3072 .f32) (harg17 : arg17.IsWhole) (arg18 : Memref sig .tc .vmem S3072x128 .f32) (harg18 : arg18.IsWhole) (arg19 : Memref sig .tc .vmem S3072x128 .f32) (harg19 : arg19.IsWhole) (arg20 : Memref sig .tc .vmem S3072x128 .f32) (harg20 : arg20.IsWhole) (arg21 : Memref sig .tc .vmem S3072x128 .f32) (harg21 : arg21.IsWhole) (arg22 : Memref sig .tc .vmem S3072x128 .f32) (harg22 : arg22.IsWhole)

variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ)))

set_option maxHeartbeats 2000000 in
theorem bodyRun (hword : ∀ y : S4x384.Idx, GroupWord (arg1.view.read (Elt F) f1 y))
    (hcount : ∀ y : S4.Idx, k0_chk1 i (arg2.view.read (Elt F) f2 y) ∧ (k0_t1_loop (arg2.view.read (Elt F) f2 y)).trips ≤ 96) :
    (iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (arg22.view.loc (c : Thread nD τ) ↦[arg22.view.set]{fullShare} f22)) : sProp 𝕄)
    ⊢ wp frame (wpE (defs₀ (F := F)) 𝒱₀ (c : Thread nD τ) none) Set.univ
      (cc0_repulsion_loss (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun _ => (iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, (arg7.view.loc (c : Thread nD τ) ↦[arg7.view.set]{fullShare} f) ∗ ⌜arg7.view.read (Elt F) f = bodyOut (arg3.view.read (Elt F) f3) (arg4.view.read (Elt F) f4) (arg5.view.read (Elt F) f5) (arg6.view.read (Elt F) f6) i (arg1.view.read (Elt F) f1) (arg2.view.read (Elt F) f2)⌝)
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f))
      ∗ (∃ f, (arg15.view.loc (c : Thread nD τ) ↦[arg15.view.set]{fullShare} f))
      ∗ (∃ f, (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (∃ f, (arg21.view.loc (c : Thread nD τ) ↦[arg21.view.set]{fullShare} f))
      ∗ (∃ f, (arg22.view.loc (c : Thread nD τ) ↦[arg22.view.set]{fullShare} f))) : sProp 𝕄)) := by
  iintro ⟨H1, H2, H3, H4, H5, H6, H7, H8, H9, H10, H11, H12, H13, H14, H15, H16, H17, H18, H19, H20, H21, H22⟩
  set_option sl_exec.resultNames true in
  sl_exec_parts
  have hk1 : k0_chk1 i (bodyRun.sl.v1477 c i arg2 f2) := (hcount _).1
  have htr : (k0_t1_loop (bodyRun.sl.v1477 c i arg2 f2)).trips ≤ 96 := (hcount _).2
  have hpure : (k0_t1_loop (bodyRun.sl.v1477 c i arg2 f2)).trips ≤ 96 ∧ ∀ y : S4x384.Idx, GroupWord (arg1.view.read (Elt F) f1 y) := ⟨htr, hword⟩
  set_option sl_exec.resultNames true in
  sl_exec_parts
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _
    isplitl [H7]
    · iexact H7
    ipureintro
    have e1477 : bodyRun.sl.v1477 c i arg2 f2 = arg2.view.read (Elt F) f2 (Idealize.ShloMosaic.ValueIdx.ix1 (i 0)) := load_count arg2.view f2 i _ _
    have t18 : arg18.view.read (Elt F) (arg18.view.writes (Elt F) arg18.view.junk (bodyRun.sl.H18_24 c arg3 arg4 f3 f4)) = rowTab (bodyRun.sl.v30 c arg3 arg4 f3 f4) := read_tab _ _ _ _ rfl
    have t19 : arg19.view.read (Elt F) (arg19.view.writes (Elt F) arg19.view.junk (bodyRun.sl.H19_24 c arg3 arg4 f3 f4)) = rowTab (bodyRun.sl.v33 c arg3 arg4 f3 f4) := read_tab _ _ _ _ rfl
    have t20 : arg20.view.read (Elt F) (arg20.view.writes (Elt F) arg20.view.junk (bodyRun.sl.H20_24 c arg3 arg4 f3 f4)) = rowTab (bodyRun.sl.v36 c arg3 arg4 f3 f4) := read_tab _ _ _ _ rfl
    have t21 : arg21.view.read (Elt F) (arg21.view.writes (Elt F) arg21.view.junk (bodyRun.sl.H21_24 c arg3 arg4 f3 f4)) = rowTab (bodyRun.sl.v39 c arg3 arg4 f3 f4) := read_tab _ _ _ _ rfl
    have t22 : arg22.view.read (Elt F) (arg22.view.writes (Elt F) arg22.view.junk (bodyRun.sl.H22_24 c arg3 arg4 arg5 f3 f4 f5)) = rowTab (bodyRun.sl.v48 c arg3 arg4 arg5 f3 f4 f5) := read_tab _ _ _ _ rfl
    rw [read_out]
    dsimp only [bodyRun.sl.H10_1, bodyRun.sl.H11_1, bodyRun.sl.H12_1, bodyRun.sl.H13_1, bodyRun.sl.H14_1, bodyRun.sl.H15_1, bodyRun.sl.H15_2, bodyRun.sl.H15_3, bodyRun.sl.H15_4, bodyRun.sl.H16_1, bodyRun.sl.H17_1, bodyRun.sl.H8_1, bodyRun.sl.H9_1, bodyRun.sl.cst_419, bodyRun.sl.v1004, bodyRun.sl.v1005, bodyRun.sl.v1040, bodyRun.sl.v1046, bodyRun.sl.v1050, bodyRun.sl.v1051, bodyRun.sl.v1093, bodyRun.sl.v1110, bodyRun.sl.v1111, bodyRun.sl.v1119, bodyRun.sl.v1132, bodyRun.sl.v1137, bodyRun.sl.v1138, bodyRun.sl.v1170, bodyRun.sl.v1175, bodyRun.sl.v1177, bodyRun.sl.v1179, bodyRun.sl.v1192, bodyRun.sl.v1206, bodyRun.sl.v1207, bodyRun.sl.v1212, bodyRun.sl.v1216, bodyRun.sl.v1221, bodyRun.sl.v1232, bodyRun.sl.v1246, bodyRun.sl.v1247, bodyRun.sl.v1251, bodyRun.sl.v1253, bodyRun.sl.v1256, bodyRun.sl.v1267, bodyRun.sl.v1296, bodyRun.sl.v1299, bodyRun.sl.v1301, bodyRun.sl.v1304, bodyRun.sl.v1309, bodyRun.sl.v1314, bodyRun.sl.v1344, bodyRun.sl.v1347, bodyRun.sl.v1349, bodyRun.sl.v1352, bodyRun.sl.v1357, bodyRun.sl.v1360, bodyRun.sl.v1392, bodyRun.sl.v1395, bodyRun.sl.v1397, bodyRun.sl.v1400, bodyRun.sl.v1405, bodyRun.sl.v1408, bodyRun.sl.v1446, bodyRun.sl.v1448, bodyRun.sl.v1452, bodyRun.sl.v1471, bodyRun.sl.v1475, bodyRun.sl.v1503, bodyRun.sl.v1507, bodyRun.sl.v1508, bodyRun.sl.v1510, bodyRun.sl.v42, bodyRun.sl.v44, bodyRun.sl.v80, bodyRun.sl.v933, bodyRun.sl.v934, bodyRun.sl.v942, bodyRun.sl.v946, bodyRun.sl.v951, bodyRun.sl.v955, bodyRun.sl.v959, bodyRun.sl.v960, bodyRun.sl.v961, bodyRun.sl.v964, bodyRun.sl.v973, bodyRun.sl.v977, bodyRun.sl.v983, bodyRun.sl.v991, bodyRun.sl.v994, bodyRun.sl.v996, bodyRun.sl.v999]
    simp only [load_whole', load_stored, read_cB, read_cN, load_g0, load_g1, load_g2, load_g3, load_in3, load_in4, load_in5, load_in6]
    simp only [stB, stN, t18, t19, t20, t21, t22, read_stored_lit, read_stored_one, e1477]
    dsimp only [bodyRun.sl.v30, bodyRun.sl.v33, bodyRun.sl.v36, bodyRun.sl.v39, bodyRun.sl.v48, bodyRun.sl.v42, k0_t1_loop]
    simp only [load_in3, load_in4, load_in5]
    simp only [bodyOut, gtTotal, gtCount, boxB, boxN, bx1, by1, bx2, by2, bar, bam, cX1, cY1, cX2, cY2, cAM, cAT, cMK, sub8, gtb, gov0, top0, ami0, gov1, top1', ami1', top1, ami1, iou2, gov2, top2, ami2, gov3, best1, sec0, stop0, stop1, sarg1, stop2', sarg2', top, best2, iog0, iog1, iog2, big, over, lin]
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

end Body

end Cert.Proof.KernelIdeal

end

end
-- ==== Proof.HostFactsIdeal.lean ====
module

public import proofs.«01_k».proof.Proof.BodyIdeal
public import proofs.«01_k».proof.Proof.Gen.KernelIdeal.Frame
public import Idealize.ShloMosaic.Lib.SortFacts
public import Idealize.ShloMosaic.Lib.Routing.Ops
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! ## The tables the host operations before the kernel compute -/

/-- The mask, one bit per box. -/
def hostMask (x3 : S4x3072x4.Idx → BitVec 1) : S4x3072.Idx → BitVec 1 :=
  shapeCast S4x3072 (extractStridedSlice S4x3072x1 ![0, 0, 0] x3 slices_S4x3072x4_S4x3072x1_0_0_0) shapeCasts_S4x3072x1_S4x3072

/-- One bit per group of eight boxes: some box of the group is in the mask. -/
def hostActive (x3 : S4x3072x4.Idx → BitVec 1) : S4x384.Idx → BitVec 1 :=
  Host.reduce IntOp.ori (shapeCast S4x384x8 (hostMask x3) shapeCasts_S4x3072_S4x384x8) (constantI S_ 1 0#1) reducesTo_S4x384x8_S4x384_d2 h_S_

/-- How many groups of an image are active. -/
def hostCount (x3 : S4x3072x4.Idx → BitVec 1) : S4.Idx → BitVec 32 :=
  Host.reduce IntOp.addi (extui 32 (hostActive x3) natLt_1_32) (constantI S_ 32 0#32) reducesTo_S4x384_S4_d1 h_S_

/-- The groups of an image in the order the kernel takes them. -/
def hostList (x3 : S4x3072x4.Idx → BitVec 1) : S4x384.Idx → BitVec 32 :=
  (Host.unstableSort2 S4x384 1 comparator_i1_i32_d1 (noti (hostActive x3)) (iotaInDim S4x384 32 1)).2

variable (m : (ℓ : Loc nD τ sig) → Buf (Elt F) ℓ)

set_option maxHeartbeats 2000000 in
theorem V_list (c : Dev nD) : V m c main_call0_v11 = hostList (m ((c : Thread nD τ).loc main_arg3)) := by
  unfold V V0
  simp only [List.flatten_cons, List.flatten_nil, List.append_nil, hostOps0]
  after_results_simp
  rfl

set_option maxHeartbeats 2000000 in
theorem V_count (c : Dev nD) : V m c main_call0_v9 = hostCount (m ((c : Thread nD τ).loc main_arg3)) := by
  unfold V V0
  simp only [List.flatten_cons, List.flatten_nil, List.append_nil, hostOps0]
  after_results_simp
  rfl

/-! ## Their ranges -/

/-- The position an entry of the list comes from. -/
def listAt (x3 : S4x3072x4.Idx → BitVec 1) (j : S4x384.Idx) : Fin 384 :=
  sortedFrom (unstableBefore S4x384 1 comparator_i1_i32_d1
    fun k => (noti (hostActive x3) (j.along 1 k), iotaInDim S4x384 32 1 (j.along 1 k))) (j 1)

theorem hostList_apply (x3 : S4x3072x4.Idx → BitVec 1) (j : S4x384.Idx) : hostList x3 j = BitVec.ofNat 32 (listAt x3 j).val := by
  exact congrArg (fun k : S4x384.Coord 1 => BitVec.ofNat 32 k.val) (Function.update_self (β := S4x384.Coord) 1 (listAt x3 j) j)

theorem hostList_word (x3 : S4x3072x4.Idx → BitVec 1) (j : S4x384.Idx) : GroupWord (hostList x3 j) := by
  unfold GroupWord
  rw [hostList_apply, BitVec.toNat_ofNat]
  have := (listAt x3 j).isLt
  omega

theorem hostCount_eq (x3 : S4x3072x4.Idx → BitVec 1) (b : Fin 4) :
    hostCount x3 (Idealize.ShloMosaic.ValueIdx.ix1 b)
      = BitVec.ofNat 32 (Nat.count (fun q => ∃ h : q < 384, hostActive x3 (Idealize.ShloMosaic.ValueIdx.ix2 b ⟨q, h⟩) = 1#1) 384) := by
  unfold hostCount
  refine Idealize.ShloMosaic.Routing.reduce_count (by decide) _ _ _ _ b _ fun q => ?_
  simp

/-! ## What the kernel's loop asks of a count -/

theorem count_trips : ∀ n : Fin 385, (k0_t1_loop (BitVec.ofNat 32 n.val)).OK ∧ (k0_t2_loop (BitVec.ofNat 32 n.val)).OK
    ∧ (k0_t1_loop (BitVec.ofNat 32 n.val)).trips = (n.val + 3) / 4 ∧ (k0_t2_loop (BitVec.ofNat 32 n.val)).trips = 0 := by
  decide +kernel

theorem off_lt : ∀ (r : Fin 4) (t : Fin 96), (Scalar.indexCast (Scalar.addi (Scalar.muli (Scf.iv 0#32 1#32 t.val) 4#32) (BitVec.ofNat 32 r.val)) : Index).toNat + 1 ≤ 384 := by
  decide +kernel

theorem row_lt : ∀ r : Fin 4, (Scalar.indexCast (BitVec.ofNat 32 r.val) : Index).toNat + 1 ≤ 4 := by decide +kernel

theorem count_ok (i : grid0.Coords) (n : Fin 385) :
    k0_chk1 i (BitVec.ofNat 32 n.val) ∧ (k0_t1_loop (BitVec.ofNat 32 n.val)).trips ≤ 96 := by
  obtain ⟨h1, h2, h3, h4⟩ := count_trips n
  have h96 : (k0_t1_loop (BitVec.ofNat 32 n.val)).trips ≤ 96 := by have := n.isLt; omega
  have hi := row_lt (i 0)
  have ht := fun (r : Fin 4) (t : Fin (k0_t1_loop (BitVec.ofNat 32 n.val)).trips) => off_lt r ⟨t.val, lt_of_lt_of_le t.isLt h96⟩
  refine ⟨⟨h1, fun t a => ?_, fun t a => ?_, fun t a => ?_, fun t a => ?_, h2, fun t => absurd t.isLt (by omega), fun t => absurd t.isLt (by omega),
    fun t => absurd t.isLt (by omega), fun t => absurd t.isLt (by omega)⟩, h96⟩
  · match a with
    | ⟨0, _⟩ => exact hi
    | ⟨1, _⟩ => exact ht 0 t
  · match a with
    | ⟨0, _⟩ => exact hi
    | ⟨1, _⟩ => exact ht 1 t
  · match a with
    | ⟨0, _⟩ => exact hi
    | ⟨1, _⟩ => exact ht 2 t
  · match a with
    | ⟨0, _⟩ => exact hi
    | ⟨1, _⟩ => exact ht 3 t

theorem hostCount_fin (x3 : S4x3072x4.Idx → BitVec 1) (b : Fin 4) :
    ∃ n : Fin 385, hostCount x3 (Idealize.ShloMosaic.ValueIdx.ix1 b) = BitVec.ofNat 32 n.val :=
  ⟨⟨Nat.count (fun q => ∃ h : q < 384, hostActive x3 (Idealize.ShloMosaic.ValueIdx.ix2 b ⟨q, h⟩) = 1#1) 384,
    Nat.lt_succ_of_le (Nat.count_le _)⟩, hostCount_eq x3 b⟩

theorem hostCount_ok (x3 : S4x3072x4.Idx → BitVec 1) (i : grid0.Coords) (y : S4.Idx) :
    k0_chk1 i (hostCount x3 y) ∧ (k0_t1_loop (hostCount x3 y)).trips ≤ 96 := by
  obtain ⟨n, hn⟩ := hostCount_fin x3 (y 0)
  have hy : hostCount x3 y = BitVec.ofNat 32 n.val := (congrArg (hostCount x3) (Idealize.ShloMosaic.ValueIdx.eq_ix1 y)).trans hn
  rw [hy]
  exact count_ok i n

end Cert.Proof.KernelIdeal

end

end
-- ==== Proof.RunIdeal.lean ====
module

public import proofs.«01_k».proof.Proof.HostFactsIdeal
public import proofs.«01_k».proof.Proof.Gen.KernelIdeal.Points
public import Idealize.ShloMosaic.Lib.Pipeline.FrameSuffix
public import Idealize.ShloMosaic.Adequacy
public import Idealize.ShloMosaic.Init

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The pipeline's proof data -/

/-- What the body leaves in the result's block at a point: the function of the six input blocks. -/
def outAt (c : Dev nD) (t : Fin cfg0.N) : FVec F S1x1x128 .f32 :=
  bodyOut (iblk m c 2 t) (iblk m c 3 t) (iblk m c 4 t) (iblk m c 5 t) (grid0.coords t) (iblk m c 0 t) (iblk m c 1 t)

/-- The arrays as the region finds them; after the body each input block in place and the result's block computed. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_6 (c : Dev nD) (t : Fin cfg0.N) : (dats m 0 c).after 6 t = outAt m c t := by dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]

theorem bef0 (c : Dev nD) (t : Fin cfg0.N) (d) : (dats m 0 c).before 0 t d = iblk m c 0 t :=
  before0_0_of m (dats m 0 c) (A_eq m c 0) (fun t => by dsimp only [dats]) t d
theorem bef1 (c : Dev nD) (t : Fin cfg0.N) (d) : (dats m 0 c).before 1 t d = iblk m c 1 t :=
  before0_1_of m (dats m 0 c) (A_eq m c 1) (fun t => by dsimp only [dats]) t d
theorem bef2 (c : Dev nD) (t : Fin cfg0.N) (d) : (dats m 0 c).before 2 t d = iblk m c 2 t :=
  before0_2_of m (dats m 0 c) (A_eq m c 2) (fun t => by dsimp only [dats]) t d
theorem bef3 (c : Dev nD) (t : Fin cfg0.N) (d) : (dats m 0 c).before 3 t d = iblk m c 3 t :=
  before0_3_of m (dats m 0 c) (A_eq m c 3) (fun t => by dsimp only [dats]) t d
theorem bef4 (c : Dev nD) (t : Fin cfg0.N) (d) : (dats m 0 c).before 4 t d = iblk m c 4 t :=
  before0_4_of m (dats m 0 c) (A_eq m c 4) (fun t => by dsimp only [dats]) t d
theorem bef5 (c : Dev nD) (t : Fin cfg0.N) (d) : (dats m 0 c).before 5 t d = iblk m c 5 t :=
  before0_5_of m (dats m 0 c) (A_eq m c 5) (fun t => by dsimp only [dats]) t d

/-! ## The tables the body reads are in range -/

theorem blk0_word (c : Dev nD) (t : Fin cfg0.N) (y : S4x384.Idx) : GroupWord (iblk m c 0 t y) := by
  have h : ∀ z, GroupWord (V m c main_call0_v11 z) := fun z => by rw [V_list]; exact hostList_word _ z
  exact h _

theorem blk1_count (c : Dev nD) (t : Fin cfg0.N) (i : grid0.Coords) (y : S4.Idx) :
    k0_chk1 i (iblk m c 1 t y) ∧ (k0_t1_loop (iblk m c 1 t y)).trips ≤ 96 := by
  have h : ∀ z, k0_chk1 i (V m c main_call0_v9 z) ∧ (k0_t1_loop (V m c main_call0_v9 z)).trips ≤ 96 := fun z => by
    rw [V_count]; exact hostCount_ok _ i z
  exact h _

/-! ## The body obligation -/

/-- A memref's buffer, at some contents. -/
def own1 (c : Dev nD) {sp : Space} {sh : Shape} {e : EltTy} (M : Memref sig .tc sp sh e) : sProp 𝕄 :=
  iprop(∃ f, (M.view.loc (c : Thread nD τ) ↦[M.view.set]{fullShare} f))

/-- A scratch buffer is a memref of its own. -/
theorem own1_whole (c : Dev nD) (b : Ref sig .tc) :
    (iprop(∃ f : Buf (Elt F) ((c : Thread nD τ).loc b), ((c : Thread nD τ).loc b) ↦{fullShare} f) : sProp 𝕄) = own1 c (Memref.whole b) := by
  unfold own1
  simp only [Memref.view_whole, View.set_whole]

theorem own1_intro (c : Dev nD) {sp : Space} {sh : Shape} {e : EltTy} (M : Memref sig .tc sp sh e) (X : sh.Idx → Elt F e) :
    (owns (c : Thread nD τ) M fullShare X : sProp 𝕄) ⊢ own1 c M := by
  unfold owns own1
  iintro ⟨%f, -, H⟩
  iexists f
  iexact H

section BodyOwns

variable (c : Dev nD) (i : grid0.Coords)
  (arg1 : Memref sig .tc .smem S4x384 .i32) (harg1 : arg1.IsWhole) (arg2 : Memref sig .tc .smem S4 .i32) (harg2 : arg2.IsWhole) (arg3 : Memref sig .tc .vmem S1x4x3072 .f32) (harg3 : arg3.IsWhole) (arg4 : Memref sig .tc .vmem S4x3072 .f32) (harg4 : arg4.IsWhole) (arg5 : Memref sig .tc .vmem S1x1x3072 .f32) (harg5 : arg5.IsWhole) (arg6 : Memref sig .tc .vmem S1x32x4 .f32) (harg6 : arg6.IsWhole) (arg7 : Memref sig .tc .vmem S1x1x128 .f32) (harg7 : arg7.IsWhole) (arg8 : Memref sig .tc .vmem S8x3072 .f32) (harg8 : arg8.IsWhole) (arg9 : Memref sig .tc .vmem S8x3072 .f32) (harg9 : arg9.IsWhole) (arg10 : Memref sig .tc .vmem S8x3072 .f32) (harg10 : arg10.IsWhole) (arg11 : Memref sig .tc .vmem S8x3072 .f32) (harg11 : arg11.IsWhole) (arg12 : Memref sig .tc .vmem S8x3072 .f32) (harg12 : arg12.IsWhole) (arg13 : Memref sig .tc .vmem S8x3072 .f32) (harg13 : arg13.IsWhole) (arg14 : Memref sig .tc .vmem S8x3072 .f32) (harg14 : arg14.IsWhole) (arg15 : Memref sig .tc .vmem S32x3072 .f32) (harg15 : arg15.IsWhole) (arg16 : Memref sig .tc .vmem S8x3072 .f32) (harg16 : arg16.IsWhole) (arg17 : Memref sig .tc .vmem S8x3072 .f32) (harg17 : arg17.IsWhole) (arg18 : Memref sig .tc .vmem S3072x128 .f32) (harg18 : arg18.IsWhole) (arg19 : Memref sig .tc .vmem S3072x128 .f32) (harg19 : arg19.IsWhole) (arg20 : Memref sig .tc .vmem S3072x128 .f32) (harg20 : arg20.IsWhole) (arg21 : Memref sig .tc .vmem S3072x128 .f32) (harg21 : arg21.IsWhole) (arg22 : Memref sig .tc .vmem S3072x128 .f32) (harg22 : arg22.IsWhole)
  (X1 : Vec F S4x384 .i32) (X2 : Vec F S4 .i32) (X3 : Vec F S1x4x3072 .f32) (X4 : Vec F S4x3072 .f32) (X5 : Vec F S1x1x3072 .f32) (X6 : Vec F S1x32x4 .f32)

set_option maxHeartbeats 2000000 in
/-- The body with its inputs' blocks as values. -/
theorem bodyOwns (hword : ∀ y : S4x384.Idx, GroupWord (X1 y))
    (hcount : ∀ y : S4.Idx, k0_chk1 i (X2 y) ∧ (k0_t1_loop (X2 y)).trips ≤ 96) :
    (iprop(owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ own1 c arg7
      ∗ own1 c arg8
      ∗ own1 c arg9
      ∗ own1 c arg10
      ∗ own1 c arg11
      ∗ own1 c arg12
      ∗ own1 c arg13
      ∗ own1 c arg14
      ∗ own1 c arg15
      ∗ own1 c arg16
      ∗ own1 c arg17
      ∗ own1 c arg18
      ∗ own1 c arg19
      ∗ own1 c arg20
      ∗ own1 c arg21
      ∗ own1 c arg22) : sProp 𝕄)
    ⊢ wp frame (wpE (defs₀ (F := F)) 𝒱₀ (c : Thread nD τ) none) Set.univ (cc0_repulsion_loss (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun _ => (iprop(owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare (bodyOut X3 X4 X5 X6 i X1 X2)
      ∗ own1 c arg8
      ∗ own1 c arg9
      ∗ own1 c arg10
      ∗ own1 c arg11
      ∗ own1 c arg12
      ∗ own1 c arg13
      ∗ own1 c arg14
      ∗ own1 c arg15
      ∗ own1 c arg16
      ∗ own1 c arg17
      ∗ own1 c arg18
      ∗ own1 c arg19
      ∗ own1 c arg20
      ∗ own1 c arg21
      ∗ own1 c arg22) : sProp 𝕄)) := by
  unfold owns own1
  iintro ⟨⟨%f1, %e1, B1⟩, ⟨%f2, %e2, B2⟩, ⟨%f3, %e3, B3⟩, ⟨%f4, %e4, B4⟩, ⟨%f5, %e5, B5⟩, ⟨%f6, %e6, B6⟩, ⟨%f7, B7⟩, ⟨%f8, B8⟩, ⟨%f9, B9⟩, ⟨%f10, B10⟩, ⟨%f11, B11⟩, ⟨%f12, B12⟩, ⟨%f13, B13⟩, ⟨%f14, B14⟩, ⟨%f15, B15⟩, ⟨%f16, B16⟩, ⟨%f17, B17⟩, ⟨%f18, B18⟩, ⟨%f19, B19⟩, ⟨%f20, B20⟩, ⟨%f21, B21⟩, ⟨%f22, B22⟩⟩
  subst e1 e2 e3 e4 e5 e6
  iapply (wp_wand_r frame (wpE (defs₀ (F := F)) 𝒱₀ (c : Thread nD τ) none))
  isplitl [B1 B2 B3 B4 B5 B6 B7 B8 B9 B10 B11 B12 B13 B14 B15 B16 B17 B18 B19 B20 B21 B22]
  · iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f11 f12 f13 f14 f15 f16 f17 f18 f19 f20 f21 f22 hword hcount)
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [B20]; · iexact B20
    isplitl [B21]; · iexact B21
    iexact B22
  iintro %_ ⟨B1, B2, B3, B4, B5, B6, ⟨%o, B7, %ho⟩, B8, B9, B10, B11, B12, B13, B14, B15, B16, B17, B18, B19, B20, B21, B22⟩
  isplitl [B1]; · iexists f1; isplitr; (· ipureintro; rfl); iexact B1
  isplitl [B2]; · iexists f2; isplitr; (· ipureintro; rfl); iexact B2
  isplitl [B3]; · iexists f3; isplitr; (· ipureintro; rfl); iexact B3
  isplitl [B4]; · iexists f4; isplitr; (· ipureintro; rfl); iexact B4
  isplitl [B5]; · iexists f5; isplitr; (· ipureintro; rfl); iexact B5
  isplitl [B6]; · iexists f6; isplitr; (· ipureintro; rfl); iexact B6
  isplitl [B7]; · iexists o; isplitr; (· ipureintro; exact ho); iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  iexact B22

end BodyOwns

/-- The kernel's scratch buffers, as the memrefs the body is called with. -/
theorem scratches (c : Dev nD) :
    (Pipeline.scopedRest (Ix := Unit) (Name := ℕ) (U := UU nD τ) (Lvl := ℕ) (Val := Elt F) spec0 c : sProp 𝕄)
      = iprop(own1 c (Memref.whole cc0_scratch0) ∗ own1 c (Memref.whole cc0_scratch1) ∗ own1 c (Memref.whole cc0_scratch2) ∗ own1 c (Memref.whole cc0_scratch3) ∗ own1 c (Memref.whole cc0_scratch4) ∗ own1 c (Memref.whole cc0_scratch5) ∗ own1 c (Memref.whole cc0_scratch6) ∗ own1 c (Memref.whole cc0_scratch7) ∗ own1 c (Memref.whole cc0_scratch8) ∗ own1 c (Memref.whole cc0_scratch9) ∗ own1 c (Memref.whole cc0_scratch10) ∗ own1 c (Memref.whole cc0_scratch11) ∗ own1 c (Memref.whole cc0_scratch12) ∗ own1 c (Memref.whole cc0_scratch13) ∗ own1 c (Memref.whole cc0_scratch14)) := by
  rw [scopedRest0_eq]
  rw [own1_whole c cc0_scratch0, own1_whole c cc0_scratch1, own1_whole c cc0_scratch2, own1_whole c cc0_scratch3, own1_whole c cc0_scratch4, own1_whole c cc0_scratch5, own1_whole c cc0_scratch6, own1_whole c cc0_scratch7, own1_whole c cc0_scratch8, own1_whole c cc0_scratch9, own1_whole c cc0_scratch10, own1_whole c cc0_scratch11, own1_whole c cc0_scratch12, own1_whole c cc0_scratch13, own1_whole c cc0_scratch14]

theorem defs₀_row (t : Fin cfg0.N) : defs₀ (F := F) Proc.tc 0 (t, cfg0.slots t) = bodyAt0 t := rfl

set_option maxHeartbeats 2000000 in
theorem body_obligation (c : Dev nD) : BodyObligation (dats m 0 c) (defs₀ (F := F)) 𝒱₀ () Set.univ := fun t => by
  rw [bigSep_W0, bigSep_W0]
  rw [show (dats m 0 c).Φ t.castSucc = Pipeline.ΦA spec0 c from rfl, show (dats m 0 c).Φ t.succ = Pipeline.ΦA spec0 c from rfl]
  unfold Pipeline.ΦA Dat.owesAt Pipeline.owesWithin
  rw [scratches]
  rw [show (dats m 0 c).owed t.castSucc = 0 from rfl, show (dats m 0 c).owed t.succ = 0 from rfl, after_6]
  simp only [bef0, bef1, bef2, bef3, bef4, bef5, aft0, aft1, aft2, aft3, aft4, aft5]
  iintro ⟨⟨⟨S0, S1, S2, S3, S4, S5, S6, S7, S8, S9, S10, S11, S12, S13, S14⟩, HR⟩, ⟨%W, %hW, HO⟩, ⟨%d0, B0⟩, ⟨%d1, B1⟩, ⟨%d2, B2⟩, ⟨%d3, B3⟩, ⟨%d4, B4⟩, ⟨%d5, B5⟩, ⟨%d6, B6⟩⟩
  iapply (wp_wand_r Idealize.ShloMosaic.frame (wpE (defs₀ (F := F)) 𝒱₀ (c : Thread nD τ) none))
  isplitl [B0 B1 B2 B3 B4 B5 B6 S0 S1 S2 S3 S4 S5 S6 S7 S8 S9 S10 S11 S12 S13 S14]
  · iapply (bodyOwns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _)
    (iblk m c 0 t) (iblk m c 1 t) (iblk m c 2 t) (iblk m c 3 t) (iblk m c 4 t) (iblk m c 5 t) (blk0_word m c t) (blk1_count m c t _))
    isplitl [B0]; · iexact B0
    isplitl [B1]; · iexact B1
    isplitl [B2]; · iexact B2
    isplitl [B3]; · iexact B3
    isplitl [B4]; · iexact B4
    isplitl [B5]; · iexact B5
    isplitl [B6]; · iapply (own1_intro c _ _); iexact B6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  iintro %_ ⟨B0, B1, B2, B3, B4, B5, B6, S0, S1, S2, S3, S4, S5, S6, S7, S8, S9, S10, S11, S12, S13, S14⟩
  isplitl [HR S0 S1 S2 S3 S4 S5 S6 S7 S8 S9 S10 S11 S12 S13 S14]
  · isplitr [HR]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    iexact HR
  isplitl [HO]
  · iexists W; isplitr; · ipureintro; exact fun _ _ => Or.inl trivial
    iexact HO
  isplitl [B0]; · iexact B0
  isplitl [B1]; · iexact B1
  isplitl [B2]; · iexact B2
  isplitl [B3]; · iexact B3
  isplitl [B4]; · iexact B4
  isplitl [B5]; · iexact B5
  iexact B6

/-! ## The run -/

/-- @main runs to the end, with the arrays as the library computes them and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main (fun c => (body_obligation m c).loose)
    (fun c => (dats m 0 c).share_full fun _ => rfl) (fun _ _ => rfl) (V0 m) [hostOps1] sfx_sub sfx_fresh sfx_keeps (hmain m 𝒱₀)
    (fun c w => A_eq m c w) (fun _ _ => rfl) _ (fun _ h => h)

/-- The arguments end as launched, the counters at zero, and the result is what the host operations after the kernel
    make of the result array. -/
theorem run_result : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = Pipeline.afterTail₀ cfgs (dats m) 0 (V0 m) [hostOps1] c main_v0)
    ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 5).trans (((dats m 0 c).arrAt_in 5 rfl _).trans ((A_eq m c 5).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      (h.1 c).2 main_v0 (Pipeline.mem_restRefs_of main_v0 (by decide) (by decide))⟩, h.2⟩) (run_main m ρ)

end Cert.Proof.KernelIdeal

end

end
-- ==== Proof.Spec.lean ====
module

public import Idealize.ShloMosaic.Lib.Pointwise

@[expose] public section

set_option maxRecDepth 16384
set_option maxHeartbeats 1000000

noncomputable section

namespace Cert.Proof

open Idealize.ShloMosaic

/-! ## Boxes in extended real arithmetic -/

/-- A box by its left, top, right and bottom edges. -/
structure Box where
  x1 : EReal
  y1 : EReal
  x2 : EReal
  y2 : EReal

/-- How far two intervals overlap. -/
def side (lo hi lo' hi' : EReal) : EReal := max (min hi hi' - max lo lo') 0
/-- The area two boxes share. -/
def meet (a b : Box) : EReal := side a.x1 a.x2 b.x1 b.x2 * side a.y1 a.y2 b.y1 b.y2
def area (a : Box) : EReal := (a.x2 - a.x1) * (a.y2 - a.y1)
/-- The shared area over the area of the union. -/
def iou (a b : Box) : EReal := Ideal.div (meet a b) (area a + area b - meet a b)

theorem side_comm (lo hi lo' hi' : EReal) : side lo hi lo' hi' = side lo' hi' lo hi := by
  unfold side; rw [min_comm, max_comm lo]
theorem meet_comm (a b : Box) : meet a b = meet b a := by
  unfold meet; rw [side_comm a.x1, side_comm a.y1]
theorem iou_comm (a b : Box) : iou a b = iou b a := by
  unfold iou; rw [meet_comm, add_comm]
theorem side_nonneg (lo hi lo' hi' : EReal) : 0 ≤ side lo hi lo' hi' := le_max_right _ _
theorem meet_nonneg (a b : Box) : 0 ≤ meet a b := mul_nonneg (side_nonneg _ _ _ _) (side_nonneg _ _ _ _)

/-- A box decoded from four offsets `l` against a prior `p` given by its centre and size. -/
def decode (l p : Fin 4 → EReal) : Box where
  x1 := (p 0 + l 0 * Ideal.ofBits .f32 0x3DCCCCCD#32 * p 2) - p 2 * Ideal.exp (l 2 * Ideal.ofBits .f32 0x3E4CCCCD#32) * Ideal.ofBits .f32 0x3F000000#32
  y1 := (p 1 + l 1 * Ideal.ofBits .f32 0x3DCCCCCD#32 * p 3) - p 3 * Ideal.exp (l 3 * Ideal.ofBits .f32 0x3E4CCCCD#32) * Ideal.ofBits .f32 0x3F000000#32
  x2 := (p 0 + l 0 * Ideal.ofBits .f32 0x3DCCCCCD#32 * p 2) + p 2 * Ideal.exp (l 2 * Ideal.ofBits .f32 0x3E4CCCCD#32) * Ideal.ofBits .f32 0x3F000000#32
  y2 := (p 1 + l 1 * Ideal.ofBits .f32 0x3DCCCCCD#32 * p 3) + p 3 * Ideal.exp (l 3 * Ideal.ofBits .f32 0x3E4CCCCD#32) * Ideal.ofBits .f32 0x3F000000#32

/-! ## The first place where the maximum is attained -/

/-- `M` is the maximum of `f` below `m`, and `a` is the word of the first place that attains it. -/
def First (f : ℕ → EReal) (m : ℕ) (M : EReal) (a : BitVec 32) : Prop :=
  ∃ k < m, a = BitVec.ofNat 32 k ∧ f k = M ∧ (∀ j < m, f j ≤ M) ∧ ∀ j < k, f j < M

theorem First.unique {f : ℕ → EReal} {m : ℕ} {M M' : EReal} {a a' : BitVec 32} (h : First f m M a) (h' : First f m M' a') :
    M = M' ∧ a = a' := by
  obtain ⟨k, hk, rfl, e, hle, hlt⟩ := h
  obtain ⟨k', hk', rfl, e', hle', hlt'⟩ := h'
  have eM : M = M' := le_antisymm (e ▸ hle' k hk) (e' ▸ hle k' hk')
  refine ⟨eM, ?_⟩
  rcases lt_trichotomy k k' with h | h | h
  · exact absurd (hlt' k h) (by rw [e, eM]; exact lt_irrefl _)
  · rw [h]
  · exact absurd (hlt k' h) (by rw [e', eM]; exact lt_irrefl _)

/-- The first maximum of a longer run from those of its two parts. -/
theorem First.join {f : ℕ → EReal} {m l : ℕ} {M M' : EReal} {a a' : BitVec 32} (h : First f m M a)
    (h' : First (fun j => f (m + j)) l M' a') :
    First f (m + l) (max M M') (if M < M' then a' + BitVec.ofNat 32 m else a) := by
  obtain ⟨k, hk, rfl, e, hle, hlt⟩ := h
  obtain ⟨k', hk', rfl, e', hle', hlt'⟩ := h'
  have hall : ∀ j < m + l, f j ≤ max M M' := fun j hj => by
    by_cases hjm : j < m
    · exact le_max_of_le_left (hle j hjm)
    · have : f (m + (j - m)) ≤ M' := hle' (j - m) (by omega)
      rw [Nat.add_sub_cancel' (by omega)] at this
      exact le_max_of_le_right this
  by_cases hM : M < M'
  · rw [if_pos hM, max_eq_right hM.le] at *
    refine ⟨m + k', by omega, by rw [Nat.add_comm, BitVec.ofNat_add], e', hall, fun j hj => ?_⟩
    by_cases hjm : j < m
    · exact (hle j hjm).trans_lt hM
    · have : f (m + (j - m)) < M' := hlt' (j - m) (by omega)
      rwa [Nat.add_sub_cancel' (by omega)] at this
  · rw [if_neg hM, max_eq_left (not_lt.1 hM)] at *
    exact ⟨k, by omega, rfl, e, hall, hlt⟩

theorem le_minsi {x y z : BitVec 32} : x.toInt ≤ (IntOp.minsi y z).toInt ↔ x.toInt ≤ y.toInt ∧ x.toInt ≤ z.toInt := by
  unfold IntOp.minsi
  split
  all_goals rename_i h
  all_goals simp only [BitVec.slt_iff_toInt_lt, BitVec.sle_iff_toInt_le] at h
  all_goals omega

theorem toInt_small {k : ℕ} (h : k < 2147483648) : (BitVec.ofNat 32 k).toInt = k := by
  have e : (BitVec.ofNat 32 k).toNat = k := by rw [BitVec.toNat_ofNat]; omega
  rw [BitVec.toInt_eq_toNat_of_lt (by omega), e]

/-- A maximum and a minimum of the attaining numbers, as folds over `m` places, give the first maximum. -/
theorem first_fold {m : ℕ} (hm : 0 < m) (f : ℕ → EReal) (d : BitVec 32) (hd : (m : ℤ) ≤ d.toInt) (hm' : m < 2147483647) :
    First f m (Finset.univ.fold max ⊥ fun x : Fin m => f x.val)
      (Finset.univ.fold IntOp.minsi 2147483647#32 fun x : Fin m =>
        if f x.val = Finset.univ.fold max ⊥ (fun x : Fin m => f x.val) then BitVec.ofNat 32 x.val else d) := by
  generalize hM : Finset.univ.fold max ⊥ (fun x : Fin m => f x.val) = M
  have hle : ∀ x : Fin m, f x.val ≤ M := fun x => by
    rw [← hM, Finset.le_fold_max]; exact Or.inr ⟨x, Finset.mem_univ _, le_rfl⟩
  have hex : ∃ k, k < m ∧ f k = M := by
    by_contra hne
    push Not at hne
    have : M < M := by
      conv_lhs => rw [← hM]
      rw [Finset.fold_max_lt]
      refine ⟨bot_lt_iff_ne_bot.2 fun hb => hne 0 hm (le_antisymm (hle ⟨0, hm⟩) (hb ▸ bot_le)), fun x _ => ?_⟩
      exact lt_of_le_of_ne (hle x) (hne x.val x.isLt)
    exact lt_irrefl _ this
  classical
  obtain ⟨hk, ek⟩ := Nat.find_spec hex
  set k := Nat.find hex with hkdef
  refine ⟨k, hk, ?_, ek, fun j hj => hle ⟨j, hj⟩, fun j hj => lt_of_le_of_ne (hle ⟨j, hj.trans hk⟩) fun h =>
    Nat.find_min hex hj ⟨hj.trans hk, h⟩⟩
  apply BitVec.eq_of_toInt_eq
  apply le_antisymm
  · have h := (Finset.fold_op_rel_iff_and (r := fun x y : BitVec 32 => x.toInt ≤ y.toInt) (op := IntOp.minsi)
      (f := fun x : Fin m => if f x.val = M then BitVec.ofNat 32 x.val else d) (b := 2147483647#32) (s := Finset.univ)
      (fun {x y z} => le_minsi (x := x) (y := y) (z := z))).1 le_rfl
    have := h.2 ⟨k, hk⟩ (Finset.mem_univ _)
    rwa [if_pos ek] at this
  · refine (Finset.fold_op_rel_iff_and (r := fun x y : BitVec 32 => x.toInt ≤ y.toInt) (op := IntOp.minsi)
      (fun {x y z} => le_minsi (x := x) (y := y) (z := z))).2 ⟨?_, fun x _ => ?_⟩
    · rw [toInt_small (by omega)]
      have : (2147483647#32 : BitVec 32).toInt = 2147483647 := by decide
      omega
    · rw [toInt_small (by omega)]
      split
      · rename_i hx
        rw [toInt_small (by omega)]
        have := Nat.find_min' hex ⟨x.isLt, hx⟩
        omega
      · omega

/-! ## One image -/

/-- The greatest value over the 32 ground boxes and the first box that has it. -/
def topOf (f : ℕ → EReal) : EReal := Finset.univ.fold max ⊥ fun x : Fin 32 => f x.val
def argOf (f : ℕ → EReal) : BitVec 32 :=
  Finset.univ.fold IntOp.minsi 2147483647#32 fun x : Fin 32 => if f x.val = topOf f then BitVec.ofNat 32 x.val else 32#32
theorem first_of (f : ℕ → EReal) : First f 32 (topOf f) (argOf f) := first_fold (by decide) f _ (by decide) (by decide)

/-- `f` with the place named by `a` set to zero. -/
def without (f : ℕ → EReal) (a : BitVec 32) : ℕ → EReal := fun k => if BitVec.ofNat 32 k = a then 0 else f k

/-- The loss of one share `v` against a threshold. -/
def smooth (v : EReal) : EReal :=
  if Ideal.ofBits .f32 0x3F666666#32 < v then
    Ideal.div (v - Ideal.ofBits .f32 0x3F666666#32) (Ideal.ofBits .f32 0x3DCCCCCD#32) - Ideal.ofBits .f32 0xC0135D8E#32
  else -Ideal.log (max (1 - if Ideal.ofBits .f32 0x3F666666#32 < v then 0 else v) (Ideal.ofBits .f32 0x2EDBE6FF#32))

/-- A total over a number of terms, zero where there is none. -/
def mean (t n : EReal) : EReal := if 0 < n then Ideal.div t (max n 1) else 0

section Image

variable (B : Fin 3072 → Box) (G : ℕ → Box) (M : Fin 3072 → BitVec 1)

/-- The mask as a number. -/
def mk (n : Fin 3072) : EReal := if M n = 1#1 then 1 else 0
/-- Box `n`'s masked overlap with ground box `k`. -/
def ovl (n : Fin 3072) (k : ℕ) : EReal := iou (G k) (B n) * mk M n
/-- The same without the best ground box. -/
def ovl2 (n : Fin 3072) : ℕ → EReal := without (ovl B G M n) (argOf (ovl B G M n))
/-- The second-best ground box. -/
def best (n : Fin 3072) : BitVec 32 := argOf (ovl2 B G M n)
/-- Whether box `n` enters the ground part. -/
def counts (n : Fin 3072) : Prop := 0 < topOf (ovl2 B G M n) ∧ M n = 1#1
instance (n : Fin 3072) : Decidable (counts B G M n) := Classical.propDecidable _
/-- The share of the second-best ground box that box `n` covers. -/
def share (n : Fin 3072) : EReal :=
  Ideal.div (meet (G (best B G M n).toNat) (B n)) (area (G (best B G M n).toNat))

def groundTotal : EReal := ∑ n, if counts B G M n then smooth (share B G M n) else 0
def groundCount : EReal := ∑ n, if counts B G M n then (1 : EReal) else 0

/-- Two boxes' overlap in the box part. -/
def pairTerm (r k : Fin 3072) : EReal := if M r = 1#1 ∧ M k = 1#1 then max (iou (B r) (B k)) 0 else 0
def pairOne (r k : Fin 3072) : EReal := if M r = 1#1 ∧ M k = 1#1 ∧ 0 < iou (B r) (B k) then 1 else 0
def pairTotal : EReal := ∑ r, ∑ k, pairTerm B M r k
def pairCount : EReal := ∑ r, ∑ k, pairOne B M r k

/-- One image's loss, ground part and box part. -/
def groundLoss : EReal := mean (groundTotal B G M) (groundCount B G M)
def pairLoss : EReal := mean (pairTotal B M) (pairCount B M)

theorem best_first (n : Fin 3072) : First (ovl2 B G M n) 32 (topOf (ovl2 B G M n)) (best B G M n) := first_of _

/-- Where a box counts, its second-best ground box meets it. -/
theorem meet_pos (n : Fin 3072) (h : counts B G M n) : 0 < meet (G (best B G M n).toNat) (B n) := by
  obtain ⟨k, hk, ek, eM, -, -⟩ := best_first B G M n
  have ek' : (best B G M n).toNat = k := by rw [ek, BitVec.toNat_ofNat]; omega
  rw [ek']
  have h0 := h.1
  rw [← eM] at h0
  unfold ovl2 without at h0
  split at h0
  · exact absurd h0 (lt_irrefl _)
  · refine lt_of_le_of_ne (meet_nonneg _ _) fun e => ?_
    unfold ovl mk iou Ideal.div at h0
    rw [if_pos h.2, mul_one, ← e] at h0
    split at h0
    · simp at h0
    · simp at h0

/-- The share by a reciprocal, where the box counts. -/
theorem share_recip (n : Fin 3072) (h : counts B G M n) :
    meet (G (best B G M n).toNat) (B n) * Ideal.div 1 (area (G (best B G M n).toNat)) = share B G M n := by
  have hp := meet_pos B G M n h
  unfold share Ideal.div
  split
  · rw [if_pos zero_lt_one]
    exact EReal.mul_top_of_pos hp
  · rw [one_mul]

end Image

end Cert.Proof

end

end
-- ==== Proof.Ground.lean ====
module

public import proofs.«01_k».proof.Proof.ValsIdeal
public import proofs.«01_k».proof.Proof.Spec
public import Idealize.ShloMosaic.Lib.Pointwise

@[expose] public section

set_option maxRecDepth 16384
set_option maxHeartbeats 2000000

noncomputable section

namespace Cert.Proof.KernelIdeal

open Cert.KernelIdeal
open Idealize.ShloMosaic

variable (x3 : Vec Ideal S1x4x3072 .f32) (x4 : Vec Ideal S4x3072 .f32) (x5 : Vec Ideal S1x1x3072 .f32) (x6 : Vec Ideal S1x32x4 .f32)

open Gen

/-! ## The ground part of the body, from its input blocks -/

/-- A column of eight repeated along a row of 3072. -/
def across (v : Vec Ideal S8x1 .f32) : Vec Ideal S8x3072 .f32 := fun j => v (ix2 (j 0) 0)
theorem across_at (v : Vec Ideal S8x1 .f32) (s : Fin 8) (n : Fin 3072) : across v (ix2 s n) = v (ix2 s 0) := rfl

theorem tile_eq (v : Vec Ideal S8x1 .f32) :
    concatenate S8x3072 1 [⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩, ⟨S8x128, broadcastTo S8x128 v broadcasts_S8x1_S8x128⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x3072_d1 = across v := by
  funext j
  idx_vars j
  pointwise [across]
  simp only [dite_eq_ite, ite_self]
/-- The decoded boxes of the image. -/
def boxOf (n : Fin 3072) : Box := decode (fun k => x3 (ix3 0 k n)) (fun k => x4 (ix2 k n))
/-- Its ground boxes. -/
def groundOf (k : ℕ) : Box :=
  ⟨x6 (ix3 0 ⟨k % 32, Nat.mod_lt _ (by decide)⟩ 0), x6 (ix3 0 ⟨k % 32, Nat.mod_lt _ (by decide)⟩ 1),
    x6 (ix3 0 ⟨k % 32, Nat.mod_lt _ (by decide)⟩ 2), x6 (ix3 0 ⟨k % 32, Nat.mod_lt _ (by decide)⟩ 3)⟩

theorem bx1_at (n : Fin 3072) : bx1 (F := Ideal) x3 x4 (ix2 0 n) = (boxOf x3 x4 n).x1 := by
  pointwise [bx1, boxOf, decode, k0_pay46, k0_pay42, k0_pay44, k0_pay40, k0_pay41, k0_pay43, k0_pay45, k0_pay38, k0_pay39]
theorem by1_at (n : Fin 3072) : by1 (F := Ideal) x3 x4 (ix2 0 n) = (boxOf x3 x4 n).y1 := by
  pointwise [by1, boxOf, decode, k0_pay47, k0_pay42, k0_pay44, k0_pay40, k0_pay41, k0_pay43, k0_pay45, k0_pay38, k0_pay39]
theorem bx2_at (n : Fin 3072) : bx2 (F := Ideal) x3 x4 (ix2 0 n) = (boxOf x3 x4 n).x2 := by
  pointwise [bx2, boxOf, decode, k0_pay48, k0_pay42, k0_pay44, k0_pay40, k0_pay41, k0_pay43, k0_pay45, k0_pay38, k0_pay39]
theorem by2_at (n : Fin 3072) : by2 (F := Ideal) x3 x4 (ix2 0 n) = (boxOf x3 x4 n).y2 := by
  pointwise [by2, boxOf, decode, k0_pay49, k0_pay42, k0_pay44, k0_pay40, k0_pay41, k0_pay43, k0_pay45, k0_pay38, k0_pay39]
theorem bar_at (n : Fin 3072) : bar (F := Ideal) x3 x4 (ix2 0 n) = area (boxOf x3 x4 n) := by
  unfold area
  rw [← bx1_at, ← bx2_at, ← by1_at, ← by2_at]
  pointwise [bar, bx1, by1, bx2, by2, k0_pay50]

section Masked

variable (M : Fin 3072 → BitVec 1) (hM : ∀ n, x5 (ix3 0 0 n) = mk M n)

theorem neg_inf : Ideal.ofBits .f32 0xFF800000#32 = ⊥ := by
  simp [Ideal.ofBits, Ideal.ieee]

include hM in
theorem mask_at (n : Fin 3072) : k0_pay51 (F := Ideal) x5 (ix2 0 n) = mk M n := by
  rw [← hM]
  pointwise [k0_pay51]
theorem cX1_at (s : Fin 8) (n : Fin 3072) : cX1 (F := Ideal) x3 x4 (ix2 s n) = (boxOf x3 x4 n).x1 := by
  rw [← bx1_at]
  pointwise [cX1, k0_pay53]
theorem cY1_at (s : Fin 8) (n : Fin 3072) : cY1 (F := Ideal) x3 x4 (ix2 s n) = (boxOf x3 x4 n).y1 := by
  rw [← by1_at]
  pointwise [cY1, k0_pay54]
theorem cX2_at (s : Fin 8) (n : Fin 3072) : cX2 (F := Ideal) x3 x4 (ix2 s n) = (boxOf x3 x4 n).x2 := by
  rw [← bx2_at]
  pointwise [cX2, k0_pay55]
theorem cY2_at (s : Fin 8) (n : Fin 3072) : cY2 (F := Ideal) x3 x4 (ix2 s n) = (boxOf x3 x4 n).y2 := by
  rw [← by2_at]
  pointwise [cY2, k0_pay56]
theorem cAT_at (s : Fin 8) (n : Fin 3072) : cAT (F := Ideal) x3 x4 (ix2 s n) = area (boxOf x3 x4 n) := by
  rw [← bar_at]
  pointwise [cAT, k0_pay58]
include hM in
theorem cMK_at (s : Fin 8) (n : Fin 3072) : cMK (F := Ideal) x5 (ix2 s n) = mk M n := by
  rw [← mask_at x5 M hM]
  pointwise [cMK, k0_pay51, k0_pay59, k0_pay60]
include hM in
theorem bam_at (n : Fin 3072) : bam (F := Ideal) x3 x4 x5 (ix2 0 n) = if M n = 1#1 then area (boxOf x3 x4 n) else ⊥ := by
  have e : bam (F := Ideal) x3 x4 x5 (ix2 0 n) = if 0 < k0_pay51 (F := Ideal) x5 (ix2 0 n) then bar x3 x4 (ix2 0 n) else ⊥ := by
    pointwise [bam, k0_pay52, neg_inf]
  rw [e, mask_at x5 M hM, bar_at]
  unfold mk
  by_cases h : M n = 1#1 <;> simp [h]
include hM in
theorem cAM_at (s : Fin 8) (n : Fin 3072) :
    cAM (F := Ideal) x3 x4 x5 (ix2 s n) = if M n = 1#1 then area (boxOf x3 x4 n) else ⊥ := by
  rw [← bam_at x3 x4 x5 M hM]
  pointwise [cAM, bam, k0_pay57]

theorem ground_lt (k : ℕ) (h : k < 32) : groundOf x6 k = ⟨x6 (ix3 0 ⟨k, h⟩ 0), x6 (ix3 0 ⟨k, h⟩ 1), x6 (ix3 0 ⟨k, h⟩ 2), x6 (ix3 0 ⟨k, h⟩ 3)⟩ := by
  have e : (⟨k % 32, Nat.mod_lt _ (by decide)⟩ : Fin 32) = ⟨k, h⟩ := Fin.ext (Nat.mod_eq_of_lt h)
  unfold groundOf
  rw [e]

/-- Box `n`'s masked overlap with each ground box, from the blocks. -/
abbrev ovs (n : Fin 3072) : ℕ → EReal := ovl (boxOf x3 x4) (groundOf x6) M n

include hM in
theorem gov0_at (s : Fin 8) (n : Fin 3072) : gov0 (F := Ideal) x3 x4 x5 x6 (ix2 s n) = ovs x3 x4 x6 M n s.val := by
  simp only [gov0, k0_pay194, k0_pay193, k0_pay192, k0_pay191, k0_pay190]
  repeat rw [tile_eq]
  rw [ovs, ovl, ground_lt x6 s.val (by omega), iou, meet, area, side, side, ← cX1_at x3 x4 s, ← cX2_at x3 x4 s, ← cY1_at x3 x4 s, ← cY2_at x3 x4 s, ← cAT_at x3 x4 s, ← cMK_at x5 M hM s]
  pointwise [across_at, k0_pay189, k0_pay188, k0_pay187, k0_pay186, k0_pay185, k0_pay184, k0_pay183]
include hM in
theorem gov1_at (s : Fin 8) (n : Fin 3072) : gov1 (F := Ideal) x3 x4 x5 x6 (ix2 s n) = ovs x3 x4 x6 M n (8 + s.val) := by
  simp only [gov1, k0_pay206, k0_pay205, k0_pay204, k0_pay203]
  repeat rw [tile_eq]
  rw [ovs, ovl, ground_lt x6 (8 + s.val) (by omega), iou, meet, area, side, side, ← cX1_at x3 x4 s, ← cX2_at x3 x4 s, ← cY1_at x3 x4 s, ← cY2_at x3 x4 s, ← cAT_at x3 x4 s, ← cMK_at x5 M hM s]
  pointwise [across_at, gtb, k0_pay202, k0_pay201, k0_pay200, k0_pay199, k0_pay198, k0_pay197, k0_pay183]
include hM in
theorem gov2_at (s : Fin 8) (n : Fin 3072) : gov2 (F := Ideal) x3 x4 x5 x6 (ix2 s n) = ovs x3 x4 x6 M n (16 + s.val) := by
  simp only [gov2, iou2, k0_pay213, k0_pay212, k0_pay211]
  repeat rw [tile_eq]
  rw [ovs, ovl, ground_lt x6 (16 + s.val) (by omega), iou, meet, area, side, side, ← cX1_at x3 x4 s, ← cX2_at x3 x4 s, ← cY1_at x3 x4 s, ← cY2_at x3 x4 s, ← cAT_at x3 x4 s, ← cMK_at x5 M hM s]
  pointwise [across_at, gtb, k0_pay183]
include hM in
theorem gov3_at (s : Fin 8) (n : Fin 3072) : gov3 (F := Ideal) x3 x4 x5 x6 (ix2 s n) = ovs x3 x4 x6 M n (24 + s.val) := by
  simp only [gov3, k0_pay227, k0_pay226, k0_pay225, k0_pay224, k0_pay223]
  repeat rw [tile_eq]
  rw [ovs, ovl, ground_lt x6 (24 + s.val) (by omega), iou, meet, area, side, side, ← cX1_at x3 x4 s, ← cX2_at x3 x4 s, ← cY1_at x3 x4 s, ← cY2_at x3 x4 s, ← cAT_at x3 x4 s, ← cMK_at x5 M hM s]
  pointwise [across_at, gtb, k0_pay222, k0_pay221, k0_pay220, k0_pay219, k0_pay218, k0_pay217, k0_pay183]

theorem select_eq {α : Type} (a b : BitVec 32) (x y : α) :
    Scalar.select (IntOp.cmpi CmpIPredicate.eq a b) x y = if a = b then x else y := by
  by_cases h : a = b
  · simp [Scalar.select, IntOp.cmpi, h]
  · have e : (a == b) = false := by simpa using h
    simp [Scalar.select, IntOp.cmpi, h, e]

theorem first_eight (f : ℕ → EReal) :
    First f 8 (Finset.univ.fold max ⊥ fun x : Fin 8 => f x.val)
      (Finset.univ.fold IntOp.minsi 2147483647#32 fun x : Fin 8 =>
        if f x.val = Finset.univ.fold max ⊥ (fun x : Fin 8 => f x.val) then BitVec.ofNat 32 x.val else 127#32) :=
  first_fold (by decide) f _ (by decide) (by decide)

theorem addi_zero (a : BitVec 32) : IntOp.addi a 0#32 = a := BitVec.add_zero a
theorem addi_def (a b : BitVec 32) : IntOp.addi a b = a + b := rfl

include hM in
theorem first0 (n : Fin 3072) :
    First (ovs x3 x4 x6 M n) 8 (top0 (F := Ideal) x3 x4 x5 x6 (ix2 0 n)) (ami0 (F := Ideal) x3 x4 x5 x6 (ix2 0 n)) := by
  have e1 : top0 (F := Ideal) x3 x4 x5 x6 (ix2 0 n) = Finset.univ.fold max ⊥ fun x : Fin 8 => gov0 (F := Ideal) x3 x4 x5 x6 (ix2 x n) := by
    pointwise [top0, gov0, k0_pay195, k0_pay194, neg_inf]
  have e2 : ami0 (F := Ideal) x3 x4 x5 x6 (ix2 0 n) = Finset.univ.fold IntOp.minsi 2147483647#32 fun x : Fin 8 =>
      if gov0 (F := Ideal) x3 x4 x5 x6 (ix2 x n) = Finset.univ.fold max ⊥ (fun x : Fin 8 => gov0 (F := Ideal) x3 x4 x5 x6 (ix2 x n)) then BitVec.ofNat 32 x.val else 127#32 := by
    pointwise [ami0, gov0, sub8, k0_pay196, k0_pay195, k0_pay194, neg_inf, addi_zero]
  rw [e1, e2]
  simp only [gov0_at x3 x4 x5 x6 M hM]
  exact first_eight _
include hM in
theorem first1 (n : Fin 3072) :
    First (ovs x3 x4 x6 M n) 16 (top1 (F := Ideal) x3 x4 x5 x6 (ix2 0 n)) (ami1 (F := Ideal) x3 x4 x5 x6 (ix2 0 n)) := by
  have e1 : top1' (F := Ideal) x3 x4 x5 x6 (ix2 0 n) = Finset.univ.fold max ⊥ fun x : Fin 8 => gov1 (F := Ideal) x3 x4 x5 x6 (ix2 x n) := by
    pointwise [top1', gov1, k0_pay207, k0_pay206, neg_inf]
  have e2 : ami1' (F := Ideal) x3 x4 x5 x6 (ix2 0 n) = Finset.univ.fold IntOp.minsi 2147483647#32 fun x : Fin 8 =>
      if gov1 (F := Ideal) x3 x4 x5 x6 (ix2 x n) = Finset.univ.fold max ⊥ (fun x : Fin 8 => gov1 (F := Ideal) x3 x4 x5 x6 (ix2 x n)) then BitVec.ofNat 32 x.val else 127#32 := by
    pointwise [ami1', gov1, sub8, k0_pay208, k0_pay207, k0_pay206, neg_inf]
  have e3 : top1 (F := Ideal) x3 x4 x5 x6 (ix2 0 n) = max (top0 (F := Ideal) x3 x4 x5 x6 (ix2 0 n)) (top1' (F := Ideal) x3 x4 x5 x6 (ix2 0 n)) := by
    pointwise [top1, k0_pay209]
  have e4 : ami1 (F := Ideal) x3 x4 x5 x6 (ix2 0 n) = if top0 (F := Ideal) x3 x4 x5 x6 (ix2 0 n) < top1' (F := Ideal) x3 x4 x5 x6 (ix2 0 n) then
      ami1' (F := Ideal) x3 x4 x5 x6 (ix2 0 n) + 8#32 else ami0 (F := Ideal) x3 x4 x5 x6 (ix2 0 n) := by
    pointwise [ami1, k0_pay210, addi_def]
  rw [e3, e4]
  refine First.join (m := 8) (l := 8) (first0 x3 x4 x5 x6 M hM n) ?_
  rw [e1, e2]
  simp only [gov1_at x3 x4 x5 x6 M hM]
  exact first_eight _
include hM in
theorem first2 (n : Fin 3072) :
    First (ovs x3 x4 x6 M n) 24 (top2 (F := Ideal) x3 x4 x5 x6 (ix2 0 n)) (ami2 (F := Ideal) x3 x4 x5 x6 (ix2 0 n)) := by
  have e3 : top2 (F := Ideal) x3 x4 x5 x6 (ix2 0 n) = max (top1 (F := Ideal) x3 x4 x5 x6 (ix2 0 n)) (Finset.univ.fold max ⊥ fun x : Fin 8 => gov2 (F := Ideal) x3 x4 x5 x6 (ix2 x n)) := by
    pointwise [top2, gov2, k0_pay212, k0_pay213, k0_pay214, k0_pay215, neg_inf]
  have e4 : ami2 (F := Ideal) x3 x4 x5 x6 (ix2 0 n) = if top1 (F := Ideal) x3 x4 x5 x6 (ix2 0 n) < (Finset.univ.fold max ⊥ fun x : Fin 8 => gov2 (F := Ideal) x3 x4 x5 x6 (ix2 x n)) then
      (Finset.univ.fold IntOp.minsi 2147483647#32 fun x : Fin 8 =>
        if gov2 (F := Ideal) x3 x4 x5 x6 (ix2 x n) = Finset.univ.fold max ⊥ (fun x : Fin 8 => gov2 (F := Ideal) x3 x4 x5 x6 (ix2 x n)) then BitVec.ofNat 32 x.val else 127#32) + 16#32
      else ami1 (F := Ideal) x3 x4 x5 x6 (ix2 0 n) := by
    pointwise [ami2, gov2, sub8, k0_pay212, k0_pay213, k0_pay214, k0_pay216, addi_def, neg_inf]
  rw [e3, e4]
  simp only [gov2_at x3 x4 x5 x6 M hM]
  exact (first1 x3 x4 x5 x6 M hM n).join (first_eight _)
include hM in
theorem best1_at (n : Fin 3072) : best1 (F := Ideal) x3 x4 x5 x6 (ix2 0 n) = argOf (ovs x3 x4 x6 M n) := by
  have e4 : best1 (F := Ideal) x3 x4 x5 x6 (ix2 0 n) = if top2 (F := Ideal) x3 x4 x5 x6 (ix2 0 n) < (Finset.univ.fold max ⊥ fun x : Fin 8 => gov3 (F := Ideal) x3 x4 x5 x6 (ix2 x n)) then
      (Finset.univ.fold IntOp.minsi 2147483647#32 fun x : Fin 8 =>
        if gov3 (F := Ideal) x3 x4 x5 x6 (ix2 x n) = Finset.univ.fold max ⊥ (fun x : Fin 8 => gov3 (F := Ideal) x3 x4 x5 x6 (ix2 x n)) then BitVec.ofNat 32 x.val else 127#32) + 24#32
      else ami2 (F := Ideal) x3 x4 x5 x6 (ix2 0 n) := by
    pointwise [best1, gov3, sub8, k0_pay227, k0_pay228, addi_def, neg_inf]
  rw [e4]
  simp only [gov3_at x3 x4 x5 x6 M hM]
  exact ((first2 x3 x4 x5 x6 M hM n).join (first_eight _)).unique (first_of _) |>.2

/-- The overlaps with the best ground box set to zero. -/
abbrev ovs2 (n : Fin 3072) : ℕ → EReal := ovl2 (boxOf x3 x4) (groundOf x6) M n

theorem ovs2_eq (n : Fin 3072) (k : ℕ) :
    ovs2 x3 x4 x6 M n k = if BitVec.ofNat 32 k = argOf (ovs x3 x4 x6 M n) then 0 else ovs x3 x4 x6 M n k := rfl
theorem word_add (k : ℕ) (m : ℕ) : BitVec.ofNat 32 k + BitVec.ofNat 32 m = BitVec.ofNat 32 (m + k) := by
  rw [Nat.add_comm, BitVec.ofNat_add]

include hM in
theorem sec0_at (s : Fin 8) (n : Fin 3072) : sec0 (F := Ideal) x3 x4 x5 x6 (ix2 s n) = ovs2 x3 x4 x6 M n s.val := by
  rw [ovs2_eq, ← gov0_at x3 x4 x5 x6 M hM, ← best1_at x3 x4 x5 x6 M hM]
  pointwise [sec0, sub8, best1, k0_pay229, addi_zero, select_eq]
include hM in
theorem sec1_at (s : Fin 8) (n : Fin 3072) :
    k0_pay231 (F := Ideal) sub8 (best1 x3 x4 x5 x6) (gov1 x3 x4 x5 x6) (ix2 s n) = ovs2 x3 x4 x6 M n (8 + s.val) := by
  rw [ovs2_eq, ← gov1_at x3 x4 x5 x6 M hM, ← best1_at x3 x4 x5 x6 M hM, ← word_add]
  pointwise [sub8, k0_pay231, addi_def, select_eq]
include hM in
theorem sec2_at (s : Fin 8) (n : Fin 3072) :
    k0_pay235 (F := Ideal) sub8 (best1 x3 x4 x5 x6) (gov2 x3 x4 x5 x6) (ix2 s n) = ovs2 x3 x4 x6 M n (16 + s.val) := by
  rw [ovs2_eq, ← gov2_at x3 x4 x5 x6 M hM, ← best1_at x3 x4 x5 x6 M hM, ← word_add]
  pointwise [sub8, k0_pay235, addi_def, select_eq]
include hM in
theorem sec3_at (s : Fin 8) (n : Fin 3072) :
    k0_pay239 (F := Ideal) sub8 (best1 x3 x4 x5 x6) (gov3 x3 x4 x5 x6) (ix2 s n) = ovs2 x3 x4 x6 M n (24 + s.val) := by
  rw [ovs2_eq, ← gov3_at x3 x4 x5 x6 M hM, ← best1_at x3 x4 x5 x6 M hM, ← word_add]
  pointwise [sub8, k0_pay239, addi_def, select_eq]

/-- The first maximum of eight values read along the sublanes, as the two reductions compute it. -/
abbrev maxOver (v : Vec Ideal S8x3072 .f32) (n : Fin 3072) : EReal := Finset.univ.fold max ⊥ fun x : Fin 8 => v (ix2 x n)
abbrev firstOver (v : Vec Ideal S8x3072 .f32) (n : Fin 3072) : BitVec 32 :=
  Finset.univ.fold IntOp.minsi 2147483647#32 fun x : Fin 8 => if v (ix2 x n) = maxOver v n then BitVec.ofNat 32 x.val else 127#32

theorem first_over (v : Vec Ideal S8x3072 .f32) (n : Fin 3072) (f : ℕ → EReal) (h : ∀ x : Fin 8, v (ix2 x n) = f x.val) :
    First f 8 (maxOver v n) (firstOver v n) := by
  unfold firstOver maxOver
  simp only [h]
  exact first_eight f

include hM in
theorem sfirst1 (n : Fin 3072) :
    First (ovs2 x3 x4 x6 M n) 16 (stop1 (F := Ideal) x3 x4 x5 x6 (ix2 0 n)) (sarg1 (F := Ideal) x3 x4 x5 x6 (ix2 0 n)) := by
  have h0 := first_over (sec0 (F := Ideal) x3 x4 x5 x6) n _ fun x => sec0_at x3 x4 x5 x6 M hM x n
  have h1 := first_over _ n (fun j => ovs2 x3 x4 x6 M n (8 + j)) fun x => sec1_at x3 x4 x5 x6 M hM x n
  have e0 : stop0 (F := Ideal) x3 x4 x5 x6 (ix2 0 n) = maxOver (sec0 x3 x4 x5 x6) n := by
    pointwise [stop0, sec0, k0_pay230, neg_inf]
  have e1 : stop1 (F := Ideal) x3 x4 x5 x6 (ix2 0 n) = max (stop0 x3 x4 x5 x6 (ix2 0 n)) (maxOver (k0_pay231 (F := Ideal) sub8 (best1 x3 x4 x5 x6) (gov1 x3 x4 x5 x6)) n) := by
    simp only [stop1, k0_pay233, k0_pay232]
    pointwise [neg_inf]
  have e2 : sarg1 (F := Ideal) x3 x4 x5 x6 (ix2 0 n) =
      if stop0 x3 x4 x5 x6 (ix2 0 n) < maxOver (k0_pay231 (F := Ideal) sub8 (best1 x3 x4 x5 x6) (gov1 x3 x4 x5 x6)) n then
        firstOver (k0_pay231 (F := Ideal) sub8 (best1 x3 x4 x5 x6) (gov1 x3 x4 x5 x6)) n + 8#32
      else Finset.univ.fold IntOp.minsi 2147483647#32 fun x : Fin 8 => if sec0 x3 x4 x5 x6 (ix2 x n) = stop0 x3 x4 x5 x6 (ix2 0 n) then BitVec.ofNat 32 x.val else 127#32 := by
    simp only [sarg1, k0_pay234, k0_pay232]
    pointwise [sub8, neg_inf, addi_def, addi_zero]
    try simp only [BitVec.add_zero]
  rw [e1, e2, e0]
  exact h0.join h1
include hM in
theorem slast (n : Fin 3072) :
    First (ovs2 x3 x4 x6 M n) 32 (top (F := Ideal) x3 x4 x5 x6 (ix2 0 n)) (best2 (F := Ideal) x3 x4 x5 x6 (ix2 0 n)) := by
  have h2 := first_over _ n (fun j => ovs2 x3 x4 x6 M n (16 + j)) fun x => sec2_at x3 x4 x5 x6 M hM x n
  have h3 := first_over _ n (fun j => ovs2 x3 x4 x6 M n (24 + j)) fun x => sec3_at x3 x4 x5 x6 M hM x n
  have e1 : top (F := Ideal) x3 x4 x5 x6 (ix2 0 n) =
      max (max (stop1 x3 x4 x5 x6 (ix2 0 n)) (maxOver (k0_pay235 (F := Ideal) sub8 (best1 x3 x4 x5 x6) (gov2 x3 x4 x5 x6)) n))
        (maxOver (k0_pay239 (F := Ideal) sub8 (best1 x3 x4 x5 x6) (gov3 x3 x4 x5 x6)) n) := by
    simp only [top, stop2', k0_pay241, k0_pay240, k0_pay238, k0_pay236]
    pointwise [neg_inf]
  have e2 : best2 (F := Ideal) x3 x4 x5 x6 (ix2 0 n) =
      if max (stop1 x3 x4 x5 x6 (ix2 0 n)) (maxOver (k0_pay235 (F := Ideal) sub8 (best1 x3 x4 x5 x6) (gov2 x3 x4 x5 x6)) n) <
          maxOver (k0_pay239 (F := Ideal) sub8 (best1 x3 x4 x5 x6) (gov3 x3 x4 x5 x6)) n then
        firstOver (k0_pay239 (F := Ideal) sub8 (best1 x3 x4 x5 x6) (gov3 x3 x4 x5 x6)) n + 24#32
      else if stop1 x3 x4 x5 x6 (ix2 0 n) < maxOver (k0_pay235 (F := Ideal) sub8 (best1 x3 x4 x5 x6) (gov2 x3 x4 x5 x6)) n then
        firstOver (k0_pay235 (F := Ideal) sub8 (best1 x3 x4 x5 x6) (gov2 x3 x4 x5 x6)) n + 16#32
      else sarg1 x3 x4 x5 x6 (ix2 0 n) := by
    simp only [best2, stop2', sarg2', k0_pay242, k0_pay240, k0_pay238, k0_pay236, k0_pay237]
    pointwise [sub8, neg_inf, addi_def]
  rw [e1, e2]
  exact ((sfirst1 x3 x4 x5 x6 M hM n).join h2).join h3
include hM in
theorem top_at (n : Fin 3072) : top (F := Ideal) x3 x4 x5 x6 (ix2 0 n) = topOf (ovs2 x3 x4 x6 M n) :=
  ((slast x3 x4 x5 x6 M hM n).unique (first_of _)).1
include hM in
theorem best2_at (n : Fin 3072) : best2 (F := Ideal) x3 x4 x5 x6 (ix2 0 n) = best (boxOf x3 x4) (groundOf x6) M n :=
  ((slast x3 x4 x5 x6 M hM n).unique (first_of _)).2

/-- The share of ground box `k`, kept only where `k` is the box named by `b`. -/
def piece (n : Fin 3072) (b : BitVec 32) (k : ℕ) : EReal :=
  if BitVec.ofNat 32 k = b then meet (groundOf x6 k) (boxOf x3 x4 n) * Ideal.div 1 (area (groundOf x6 k)) else 0

theorem iog0_at (s : Fin 8) (n : Fin 3072) :
    iog0 (F := Ideal) x3 x4 x5 x6 (ix2 s n) = piece x3 x4 x6 n (best2 (F := Ideal) x3 x4 x5 x6 (ix2 0 n)) s.val := by
  simp only [iog0, k0_pay251, k0_pay250]
  repeat rw [tile_eq]
  rw [piece, ground_lt x6 s.val (by omega), meet, area, side, side, ← cX1_at x3 x4 s, ← cX2_at x3 x4 s, ← cY1_at x3 x4 s, ← cY2_at x3 x4 s]
  pointwise [across_at, gtb, sub8, select_eq, addi_zero, zero_add, k0_pay249, k0_pay248, k0_pay247, k0_pay246, k0_pay245, k0_pay244, k0_pay243, k0_pay183]
theorem iog1_at (s : Fin 8) (n : Fin 3072) :
    iog1 (F := Ideal) x3 x4 x5 x6 (ix2 s n) = iog0 (F := Ideal) x3 x4 x5 x6 (ix2 s n) + piece x3 x4 x6 n (best2 (F := Ideal) x3 x4 x5 x6 (ix2 0 n)) (8 + s.val) := by
  simp only [iog1, k0_pay260, k0_pay259, k0_pay258]
  repeat rw [tile_eq]
  rw [piece, ground_lt x6 (8 + s.val) (by omega), meet, area, side, side, ← cX1_at x3 x4 s, ← cX2_at x3 x4 s, ← cY1_at x3 x4 s, ← cY2_at x3 x4 s, ← word_add]
  pointwise [across_at, gtb, sub8, select_eq, addi_def, k0_pay257, k0_pay256, k0_pay255, k0_pay254, k0_pay253, k0_pay252, k0_pay183]
theorem iog2_at (s : Fin 8) (n : Fin 3072) :
    iog2 (F := Ideal) x3 x4 x5 x6 (ix2 s n) = iog1 (F := Ideal) x3 x4 x5 x6 (ix2 s n) + piece x3 x4 x6 n (best2 (F := Ideal) x3 x4 x5 x6 (ix2 0 n)) (16 + s.val) := by
  simp only [iog2, k0_pay269, k0_pay268, k0_pay267]
  repeat rw [tile_eq]
  rw [piece, ground_lt x6 (16 + s.val) (by omega), meet, area, side, side, ← cX1_at x3 x4 s, ← cX2_at x3 x4 s, ← cY1_at x3 x4 s, ← cY2_at x3 x4 s, ← word_add]
  pointwise [across_at, gtb, sub8, select_eq, addi_def, k0_pay266, k0_pay265, k0_pay264, k0_pay263, k0_pay262, k0_pay261, k0_pay183]

/-- The summed share. -/
def shareSum : FVec Ideal S1x3072 .f32 :=
  k0_pay278 (F := Ideal) sub8 (best2 x3 x4 x5 x6) (iog2 x3 x4 x5 x6) (k0_pay272 (gtb x6)) (k0_pay274 (gtb x6)) (k0_pay275 (gtb x6))
    (k0_pay276 (gtb x6) (cX2 x3 x4)) (k0_pay277 (gtb x6)) (cX1 x3 x4) (cY2 x3 x4) (cY1 x3 x4)

theorem shareSum_at (n : Fin 3072) :
    shareSum x3 x4 x5 x6 (ix2 0 n) = ∑ s : Fin 8, (iog2 (F := Ideal) x3 x4 x5 x6 (ix2 s n) + piece x3 x4 x6 n (best2 (F := Ideal) x3 x4 x5 x6 (ix2 0 n)) (24 + s.val)) := by
  have e : ∀ s : Fin 8, piece x3 x4 x6 n (best2 (F := Ideal) x3 x4 x5 x6 (ix2 0 n)) (24 + s.val) =
      if BitVec.ofNat 32 s.val + 24#32 = best2 (F := Ideal) x3 x4 x5 x6 (ix2 0 n) then
        meet ⟨x6 (ix3 0 ⟨24 + s.val, by omega⟩ 0), x6 (ix3 0 ⟨24 + s.val, by omega⟩ 1), x6 (ix3 0 ⟨24 + s.val, by omega⟩ 2), x6 (ix3 0 ⟨24 + s.val, by omega⟩ 3)⟩
          ⟨cX1 x3 x4 (ix2 s n), cY1 x3 x4 (ix2 s n), cX2 x3 x4 (ix2 s n), cY2 x3 x4 (ix2 s n)⟩ *
        Ideal.div 1 (area ⟨x6 (ix3 0 ⟨24 + s.val, by omega⟩ 0), x6 (ix3 0 ⟨24 + s.val, by omega⟩ 1), x6 (ix3 0 ⟨24 + s.val, by omega⟩ 2), x6 (ix3 0 ⟨24 + s.val, by omega⟩ 3)⟩)
      else 0 := fun s => by
    rw [cX1_at, cY1_at, cX2_at, cY2_at, piece, ground_lt x6 (24 + s.val) (by omega), word_add]
  simp only [e, meet, area, side, shareSum, k0_pay278, k0_pay277, k0_pay276]
  repeat rw [tile_eq]
  pointwise [across_at, gtb, sub8, select_eq, addi_def, k0_pay275, k0_pay274, k0_pay273, k0_pay272, k0_pay271, k0_pay270, k0_pay183]

theorem word_inj {a b : ℕ} (ha : a < 32) (hb : b < 32) : BitVec.ofNat 32 a = BitVec.ofNat 32 b ↔ a = b := by
  constructor
  · intro h
    have := congrArg BitVec.toNat h
    rw [BitVec.toNat_ofNat, BitVec.toNat_ofNat] at this
    omega
  · exact fun h => by rw [h]

theorem sum_pieces (v : ℕ → EReal) (b : ℕ) (hb : b < 32) :
    ∑ s : Fin 8, ((if BitVec.ofNat 32 s.val = BitVec.ofNat 32 b then v s.val else 0) + (if BitVec.ofNat 32 (8 + s.val) = BitVec.ofNat 32 b then v (8 + s.val) else 0)
      + (if BitVec.ofNat 32 (16 + s.val) = BitVec.ofNat 32 b then v (16 + s.val) else 0) + (if BitVec.ofNat 32 (24 + s.val) = BitVec.ofNat 32 b then v (24 + s.val) else 0)) = v b := by
  have e : ∀ s : Fin 8, ∀ o, o ≤ 24 → (BitVec.ofNat 32 (o + s.val) = BitVec.ofNat 32 b ↔ s.val = b - o ∧ o ≤ b) := fun s o ho => by
    rw [word_inj (by omega) hb]; omega
  have e0 : ∀ s : Fin 8, (BitVec.ofNat 32 s.val = BitVec.ofNat 32 b ↔ s.val = b) := fun s => word_inj (by omega) hb
  simp only [e _ 8 (by decide), e _ 16 (by decide), e _ 24 (by decide), e0]
  rw [Finset.sum_eq_single (⟨b % 8, Nat.mod_lt _ (by decide)⟩ : Fin 8)]
  · dsimp only
    interval_cases b <;> simp
  · intro s _ hs
    have hs' : s.val ≠ b % 8 := fun h => hs (Fin.ext h)
    rw [if_neg (by omega), if_neg (by omega), if_neg (by omega), if_neg (by omega)]
    simp
  · exact fun h => absurd (Finset.mem_univ _) h

include hM in
theorem shareSum_eq (n : Fin 3072) (h : counts (boxOf x3 x4) (groundOf x6) M n) :
    shareSum x3 x4 x5 x6 (ix2 0 n) = share (boxOf x3 x4) (groundOf x6) M n := by
  rw [shareSum_at]
  simp only [iog2_at, iog1_at, iog0_at, best2_at x3 x4 x5 x6 M hM]
  obtain ⟨k, hk, ek, -⟩ := best_first (boxOf x3 x4) (groundOf x6) M n
  have ek' : (best (boxOf x3 x4) (groundOf x6) M n).toNat = k := by rw [ek, BitVec.toNat_ofNat]; omega
  rw [← share_recip _ _ _ _ h, ek', ek]
  exact sum_pieces (fun k => meet (groundOf x6 k) (boxOf x3 x4 n) * Ideal.div 1 (area (groundOf x6 k))) k hk

theorem gtTotal_sum :
    gtTotal (F := Ideal) x3 x4 x5 x6 = ∑ n : Fin 3072,
      (if 0 < top (F := Ideal) x3 x4 x5 x6 (ix2 0 n) then k0_pay51 (F := Ideal) x5 (ix2 0 n) else 0) * smooth (shareSum x3 x4 x5 x6 (ix2 0 n)) := by
  unfold smooth
  pointwise [gtTotal, big, over, lin, shareSum, k0_pay283, k0_pay282, k0_pay281, k0_pay280, k0_pay279]
  simp only [Finset.univ_unique, Finset.sum_singleton, zero_sub]
theorem gtCount_sum :
    gtCount (F := Ideal) x3 x4 x5 x6 = ∑ n : Fin 3072,
      (if 0 < top (F := Ideal) x3 x4 x5 x6 (ix2 0 n) then k0_pay51 (F := Ideal) x5 (ix2 0 n) else 0) := by
  pointwise [gtCount, k0_pay284, k0_pay282]
  simp only [Finset.univ_unique, Finset.sum_singleton, zero_sub]
include hM in
theorem gtTotal_eq : gtTotal (F := Ideal) x3 x4 x5 x6 = groundTotal (boxOf x3 x4) (groundOf x6) M := by
  rw [gtTotal_sum, groundTotal]
  refine Finset.sum_congr rfl fun n _ => ?_
  rw [top_at x3 x4 x5 x6 M hM, mask_at x5 M hM]
  by_cases h : counts (boxOf x3 x4) (groundOf x6) M n
  · rw [if_pos h, shareSum_eq x3 x4 x5 x6 M hM n h, if_pos h.1, mk, if_pos h.2, one_mul]
  · rw [if_neg h]
    have e : (if 0 < topOf (ovs2 x3 x4 x6 M n) then mk M n else 0) = 0 := by
      by_cases h1 : 0 < topOf (ovs2 x3 x4 x6 M n)
      · rw [if_pos h1, mk, if_neg fun h2 => h ⟨h1, h2⟩]
      · rw [if_neg h1]
    rw [e, zero_mul]
include hM in
theorem gtCount_eq : gtCount (F := Ideal) x3 x4 x5 x6 = groundCount (boxOf x3 x4) (groundOf x6) M := by
  rw [gtCount_sum, groundCount]
  refine Finset.sum_congr rfl fun n _ => ?_
  rw [top_at x3 x4 x5 x6 M hM, mask_at x5 M hM]
  by_cases h : counts (boxOf x3 x4) (groundOf x6) M n
  · rw [if_pos h, if_pos h.1, mk, if_pos h.2]
  · rw [if_neg h]
    by_cases h1 : 0 < topOf (ovs2 x3 x4 x6 M n)
    · rw [if_pos h1, mk, if_neg fun h2 => h ⟨h1, h2⟩]
    · rw [if_neg h1]

end Masked

end Cert.Proof.KernelIdeal

end

end
-- ==== Proof.Pairs.lean ====
module

public import proofs.«01_k».proof.Proof.Ground
public import proofs.«01_k».proof.Proof.HostFactsIdeal
public import Idealize.ShloMosaic.Lib.SortFacts
public import Idealize.ShloMosaic.Lib.Routing.OpsOrder
public import Idealize.ShloMosaic.Lib.Pointwise

@[expose] public section

set_option maxRecDepth 16384
set_option maxHeartbeats 2000000

noncomputable section

namespace Cert.Proof.KernelIdeal

open Cert.KernelIdeal Cert.KernelIdeal.Gen
open Idealize.ShloMosaic

/-! ## The box part of the body: the listed row groups cover every pair that counts -/

section Rows

variable (x3 : Vec Ideal S1x4x3072 .f32) (x4 : Vec Ideal S4x3072 .f32) (x5 : Vec Ideal S1x1x3072 .f32)
variable (M : Fin 3072 → BitVec 1) (hM : ∀ n, x5 (ix3 0 0 n) = mk M n)

/-- Row `s` of row group `w`. -/
def rowNo (w : BitVec 32) (s : Fin 8) : Fin 3072 := ⟨(8 * w.toNat + s.val) % 3072, Nat.mod_lt _ (by decide)⟩
/-- The eight values of row group `w` as a column. -/
def rowCol (v : Vec Ideal S1x3072 .f32) (w : BitVec 32) : Vec Ideal S8x1 .f32 := fun y => v (ix2 0 (rowNo w (y 0)))

theorem rows_eq (v : Vec Ideal S1x3072 .f32) (w : BitVec 32) :
    rowsAt (F := Ideal) (rowTab (F := Ideal) v) w = broadcastTo S8x128 (rowCol v w) broadcasts_S8x1_S8x128 := by
  funext j
  idx_vars j
  pointwise [rowCol]
  rfl

/-- The overlap the loop adds for row `r` and column `k`. -/
def pairVal (r k : Fin 3072) : EReal :=
  max (Ideal.div (meet (boxOf x3 x4 r) (boxOf x3 x4 k))
    ((if M r = 1#1 then area (boxOf x3 x4 r) else ⊥) + (if M k = 1#1 then area (boxOf x3 x4 k) else ⊥) - meet (boxOf x3 x4 r) (boxOf x3 x4 k))) 0

theorem pairVal_eq (r k : Fin 3072) : pairVal x3 x4 M r k = pairTerm (boxOf x3 x4) M r k := by
  unfold pairVal pairTerm
  by_cases hr : M r = 1#1
  · by_cases hk : M k = 1#1
    · rw [if_pos hr, if_pos hk, if_pos ⟨hr, hk⟩]; rfl
    · rw [if_pos hr, if_neg hk, if_neg (show ¬(M r = 1#1 ∧ M k = 1#1) from fun h => hk h.2), EReal.add_bot, sub_eq_add_neg, EReal.bot_add]
      simp [Ideal.div]
  · rw [if_neg hr, if_neg (show ¬(M r = 1#1 ∧ M k = 1#1) from fun h => hr h.1), EReal.bot_add, sub_eq_add_neg, EReal.bot_add]
    simp [Ideal.div]

theorem pairOne_eq (r k : Fin 3072) : (if 0 < pairVal x3 x4 M r k then (1 : EReal) else 0) = pairOne (boxOf x3 x4) M r k := by
  rw [pairVal_eq]
  unfold pairTerm pairOne
  by_cases h : M r = 1#1 ∧ M k = 1#1
  · rw [if_pos h]
    by_cases h0 : 0 < iou (boxOf x3 x4 r) (boxOf x3 x4 k)
    · rw [if_pos (lt_max_of_lt_left h0), if_pos ⟨h.1, h.2, h0⟩]
    · rw [if_neg (by rw [max_eq_right (not_lt.1 h0)]; exact lt_irrefl _), if_neg fun h' => h0 h'.2.2]
  · rw [if_neg h, if_neg (lt_irrefl _), if_neg fun h' => h ⟨h'.1, h'.2.1⟩]

include hM in
theorem over_at (w : BitVec 32) (s : Fin 8) (k : Fin 3072) :
    k0_pay4 (F := Ideal) (k0_pay2 (rowsAt (rowTab (bx1 x3 x4)) w) (rowsAt (rowTab (by1 x3 x4)) w) (rowsAt (rowTab (bx2 x3 x4)) w) (rowsAt (rowTab (by2 x3 x4)) w)
      (cX2 x3 x4) (cX1 x3 x4) (cY2 x3 x4) (cY1 x3 x4)) (k0_pay3 (rowsAt (rowTab (bam x3 x4 x5)) w)) (cAM x3 x4 x5) (ix2 s k) = pairVal x3 x4 M (rowNo w s) k := by
  rw [rows_eq, rows_eq, rows_eq, rows_eq, rows_eq]
  simp only [k0_pay2, k0_pay3]
  repeat rw [tile_eq]
  rw [pairVal, meet, side, side, ← bam_at x3 x4 x5 M hM, ← cAM_at x3 x4 x5 M hM s, ← bx1_at, ← bx2_at, ← by1_at, ← by2_at,
    ← cX1_at x3 x4 s, ← cX2_at x3 x4 s, ← cY1_at x3 x4 s, ← cY2_at x3 x4 s]
  pointwise [across_at, rowCol, k0_pay4]

include hM in
theorem stepB_at (w : BitVec 32) (acc : Vec Ideal S8x3072 .f32) (s : Fin 8) (k : Fin 3072) :
    stepB (F := Ideal) (rowsAt (rowTab (bx1 x3 x4)) w) (rowsAt (rowTab (by1 x3 x4)) w) (rowsAt (rowTab (bx2 x3 x4)) w) (rowsAt (rowTab (by2 x3 x4)) w)
      (rowsAt (rowTab (bam x3 x4 x5)) w) (cX1 x3 x4) (cY1 x3 x4) (cX2 x3 x4) (cY2 x3 x4) (cAM x3 x4 x5) acc (ix2 s k)
      = acc (ix2 s k) + pairTerm (boxOf x3 x4) M (rowNo w s) k := by
  rw [← pairVal_eq, ← over_at x3 x4 x5 M hM]
  pointwise [stepB, k0_pay5]
include hM in
theorem stepN_at (w : BitVec 32) (acc : Vec Ideal S8x3072 .f32) (s : Fin 8) (k : Fin 3072) :
    stepN (F := Ideal) (rowsAt (rowTab (bx1 x3 x4)) w) (rowsAt (rowTab (by1 x3 x4)) w) (rowsAt (rowTab (bx2 x3 x4)) w) (rowsAt (rowTab (by2 x3 x4)) w)
      (rowsAt (rowTab (bam x3 x4 x5)) w) (cX1 x3 x4) (cY1 x3 x4) (cX2 x3 x4) (cY2 x3 x4) (cAM x3 x4 x5) acc (ix2 s k)
      = acc (ix2 s k) + pairOne (boxOf x3 x4) M (rowNo w s) k := by
  rw [← pairOne_eq, ← over_at x3 x4 x5 M hM]
  pointwise [stepN, k0_pay6]

include hM in
theorem boxB_at (W : ℕ → BitVec 32) (n : ℕ) (s : Fin 8) (k : Fin 3072) :
    boxB (F := Ideal) x3 x4 x5 W n (ix2 s k) = ∑ j ∈ Finset.range n, pairTerm (boxOf x3 x4) M (rowNo (W j) s) k := by
  induction n with
  | zero =>
    rw [Finset.sum_range_zero]
    show k0_pay61 (F := Ideal) (ix2 s k) = 0
    pointwise [k0_pay61]
  | succ n ih =>
    rw [Finset.sum_range_succ, ← ih]
    exact stepB_at x3 x4 x5 M hM (W n) _ s k
include hM in
theorem boxN_at (W : ℕ → BitVec 32) (n : ℕ) (s : Fin 8) (k : Fin 3072) :
    boxN (F := Ideal) x3 x4 x5 W n (ix2 s k) = ∑ j ∈ Finset.range n, pairOne (boxOf x3 x4) M (rowNo (W j) s) k := by
  induction n with
  | zero =>
    rw [Finset.sum_range_zero]
    show k0_pay62 (F := Ideal) (ix2 s k) = 0
    pointwise [k0_pay62]
  | succ n ih =>
    rw [Finset.sum_range_succ, ← ih]
    exact stepN_at x3 x4 x5 M hM (W n) _ s k

theorem total_at (v : Vec Ideal S8x3072 .f32) : k0_pay287 (F := Ideal) v = ∑ s : Fin 8, ∑ k : Fin 3072, v (ix2 s k) := by
  pointwise [k0_pay287]
theorem count_at (v : Vec Ideal S8x3072 .f32) : k0_pay288 (F := Ideal) v (ix1 0) = ∑ s : Fin 8, ∑ k : Fin 3072, v (ix2 s k) := by
  pointwise [k0_pay288]

end Rows

/-! ## The list of active row groups -/

/-- A sum over all rows, from the row groups a list names: the list is a permutation of the groups, and the groups past
    its first `n` contribute nothing. -/
theorem sum_listed (t : Fin 3072 → EReal) (W : ℕ → BitVec 32) (L : Fin 384 → Fin 384) (hL : Function.Bijective L)
    (hW : ∀ j : Fin 384, W j.val = BitVec.ofNat 32 (L j).val) (n : ℕ) (hn : n ≤ 384)
    (h0 : ∀ j : Fin 384, n ≤ j.val → ∀ s : Fin 8, t (rowNo (W j.val) s) = 0) :
    ∑ j ∈ Finset.range n, ∑ s : Fin 8, t (rowNo (W j) s) = ∑ r, t r := by
  have e1 : ∑ j ∈ Finset.range n, ∑ s : Fin 8, t (rowNo (W j) s) = ∑ j ∈ Finset.range 384, ∑ s : Fin 8, t (rowNo (W j) s) := by
    refine Finset.sum_subset (Finset.range_subset_range.2 hn) fun j hj hj' => Finset.sum_eq_zero fun s _ => ?_
    exact h0 ⟨j, Finset.mem_range.1 hj⟩ (by simpa using hj') s
  rw [e1, ← Fin.sum_univ_eq_sum_range (fun j => ∑ s : Fin 8, t (rowNo (W j) s)) 384]
  have e2 : ∀ j : Fin 384, ∑ s : Fin 8, t (rowNo (W j.val) s) = (fun q : Fin 384 => ∑ s : Fin 8, t (finProdFinEquiv (q, s))) (L j) := fun j => by
    refine Finset.sum_congr rfl fun s _ => congrArg t (Fin.ext ?_)
    show (8 * (W j.val).toNat + s.val) % 3072 = s.val + 8 * (L j).val
    rw [hW, BitVec.toNat_ofNat]
    omega
  simp only [e2]
  rw [hL.sum_comp (fun q : Fin 384 => ∑ s : Fin 8, t (finProdFinEquiv (q, s))), ← Fintype.sum_prod_type']
  exact Equiv.sum_comp (finProdFinEquiv (m := 384) (n := 8)) t

section List

variable (a3 : S4x3072x4.Idx → BitVec 1)

/-- The mask of image `b`. -/
def maskOf (b : Fin 4) (n : Fin 3072) : BitVec 1 := a3 (ix3 b n 0)

theorem active_iff (b : Fin 4) (q : Fin 384) :
    hostActive a3 (ix2 b q) = 1#1 ↔ ∃ s : Fin 8, maskOf a3 b ⟨8 * q.val + s.val, by omega⟩ = 1#1 := by
  have e : hostActive a3 (ix2 b q) = Finset.univ.fold IntOp.ori 0#1 fun s : Fin 8 => maskOf a3 b ⟨8 * q.val + s.val, by omega⟩ := by
    pointwise [hostActive, hostMask, maskOf]
    simp only [Nat.mul_comm]
  rw [e, Routing.fold_ori]
  simp

/-- Place `j` of image `b`'s list. -/
def place (b : Fin 4) (j : Fin 384) : Fin 384 := listAt a3 (ix2 b j)

/-- An image's row groups as the sort sees them: inactive or not, and the group's number. -/
def keys (b : Fin 4) (k : Fin 384) : BitVec 1 × BitVec 32 := (noti (hostActive a3) (ix2 b k), iotaInDim S4x384 32 1 (ix2 b k))

theorem along_eq (b : Fin 4) (j k : Fin 384) : (show S4x384.Idx from ix2 b j).along 1 k = ix2 b k := by
  funext a
  rcases a with ⟨_ | _ | a, ha⟩
  · rfl
  · rfl
  · exact absurd ha (by simp)

theorem place_eq (b : Fin 4) : place a3 b = sortedFrom (unstableBefore S4x384 1 comparator_i1_i32_d1 (keys a3 b)) := by
  funext j
  unfold place listAt keys
  simp only [along_eq]
  rfl

theorem place_bij (b : Fin 4) : Function.Bijective (place a3 b) := by
  rw [place_eq]
  exact ⟨sortedFrom_injective _, sortedFrom_surjective _⟩

theorem before_iff (x y : BitVec 1 × BitVec 32) : comparator_i1_i32_d1 x y = 1#1 ↔ x.1.toNat < y.1.toNat := by
  unfold comparator_i1_i32_d1
  show BitVec.ofBool (decide (x.1.toNat < y.1.toNat)) = 1#1 ↔ _
  by_cases h : x.1.toNat < y.1.toNat <;> simp [h]

/-- Active groups come before inactive ones. -/
theorem place_mono (b : Fin 4) (i j : Fin 384) (hij : i ≤ j) (h : hostActive a3 (ix2 b (place a3 b j)) = 1#1) :
    hostActive a3 (ix2 b (place a3 b i)) = 1#1 := by
  rcases eq_or_lt_of_le hij with e | e
  · rw [e]; exact h
  · have hs := unstableBefore_sorted S4x384 1 comparator_i1_i32_d1 (keys a3 b)
      (fun x y hxy => by rw [Ne, before_iff]; rw [before_iff] at hxy; omega)
      (fun x y z h1 h2 => by rw [Ne, before_iff] at *; omega) i j e
    rw [← place_eq, Ne, before_iff] at hs
    by_contra hi
    have hi0 : hostActive a3 (ix2 b (place a3 b i)) = 0#1 := (BitVec.eq_zero_or_eq_one _).resolve_right hi
    apply hs
    show (~~~ (hostActive a3 (ix2 b (place a3 b j)))).toNat < (~~~ (hostActive a3 (ix2 b (place a3 b i)))).toNat
    rw [h, hi0]
    decide

/-- How many groups of image `b` are active. -/
def activeNo (b : Fin 4) : ℕ := Nat.count (fun q => ∃ h : q < 384, hostActive a3 (ix2 b ⟨q, h⟩) = 1#1) 384

theorem activeNo_le (b : Fin 4) : activeNo a3 b ≤ 384 := Nat.count_le _

/-- Past the active groups the list names inactive ones. -/
theorem place_past (b : Fin 4) (j : Fin 384) (hj : activeNo a3 b ≤ j.val) : hostActive a3 (ix2 b (place a3 b j)) ≠ 1#1 := by
  intro h
  have e : activeNo a3 b = (Finset.univ.filter fun q : Fin 384 => hostActive a3 (ix2 b q) = 1#1).card := by
    unfold activeNo
    rw [← Routing.card_filter_fin 384]
    refine congrArg Finset.card (Finset.filter_congr fun q _ => ?_)
    exact ⟨fun ⟨_, h⟩ => h, fun h => ⟨q.isLt, h⟩⟩
  have hsub : (Finset.Iic j).image (place a3 b) ⊆ Finset.univ.filter fun q : Fin 384 => hostActive a3 (ix2 b q) = 1#1 := fun q hq => by
    obtain ⟨i, hi, rfl⟩ := Finset.mem_image.1 hq
    exact Finset.mem_filter.2 ⟨Finset.mem_univ _, place_mono a3 b i j (Finset.mem_Iic.1 hi) h⟩
  have hc := Finset.card_le_card hsub
  rw [Finset.card_image_of_injective _ (place_bij a3 b).1, Fin.card_Iic, ← e] at hc
  omega

theorem mask_past (b : Fin 4) (j : Fin 384) (hj : activeNo a3 b ≤ j.val) (s : Fin 8) :
    maskOf a3 b (rowNo (BitVec.ofNat 32 (place a3 b j).val) s) ≠ 1#1 := fun h => by
  refine place_past a3 b j hj ((active_iff a3 b _).2 ⟨s, ?_⟩)
  rw [← h]
  refine congrArg (maskOf a3 b) (Fin.ext ?_)
  show 8 * (place a3 b j).val + s.val = (8 * (BitVec.ofNat 32 (place a3 b j).val).toNat + s.val) % 3072
  rw [BitVec.toNat_ofNat]
  omega

end List

end Cert.Proof.KernelIdeal

end

end
-- ==== Proof.Image.lean ====
module

public import proofs.«01_k».proof.Proof.Pairs

@[expose] public section

set_option maxRecDepth 16384
set_option maxHeartbeats 2000000

noncomputable section

namespace Cert.Proof.KernelIdeal

open Cert.KernelIdeal Cert.KernelIdeal.Gen
open Idealize.ShloMosaic

/-! ## What the body computes of one image -/

variable (a3 : S4x3072x4.Idx → BitVec 1) (b : Fin 4)

theorem trips_eq : (k0_t1_loop (hostCount a3 (ix1 b))).trips = (activeNo a3 b + 3) / 4 := by
  have h := (count_trips ⟨activeNo a3 b, Nat.lt_succ_of_le (activeNo_le a3 b)⟩).2.2.1
  rw [show hostCount a3 (ix1 b) = BitVec.ofNat 32 (activeNo a3 b) from hostCount_eq a3 b]
  exact h

variable (x3 : Vec Ideal S1x4x3072 .f32) (x4 : Vec Ideal S4x3072 .f32) (x5 : Vec Ideal S1x1x3072 .f32) (x6 : Vec Ideal S1x32x4 .f32)
variable (hM : ∀ n, x5 (ix3 0 0 n) = mk (maskOf a3 b) n)

/-- The words the loop reads for image `b` name the listed groups. -/
theorem word_place (j : Fin 384) : word (hostList a3) b j.val = BitVec.ofNat 32 (place a3 b j).val := by
  refine (hostList_apply a3 _).trans (congrArg (fun k : Fin 384 => BitVec.ofNat 32 (place a3 b k).val) (Fin.ext ?_))
  exact Nat.mod_eq_of_lt j.isLt

theorem listed (t : Fin 3072 → EReal) (ht : ∀ r, maskOf a3 b r ≠ 1#1 → t r = 0) :
    ∑ j ∈ Finset.range (4 * (k0_t1_loop (hostCount a3 (ix1 b))).trips), ∑ s : Fin 8, t (rowNo (word (hostList a3) b j) s) = ∑ r, t r := by
  have hle := activeNo_le a3 b
  refine sum_listed t (word (hostList a3) b) (place a3 b) (place_bij a3 b) (word_place a3 b) _ ?_ fun j hj s => ?_
  · rw [trips_eq]; omega
  · rw [trips_eq] at hj
    rw [word_place]
    exact ht _ (mask_past a3 b j (by omega) s)

include hM in
theorem pairs_total : k0_pay287 (F := Ideal) (boxB x3 x4 x5 (word (hostList a3) b) (4 * (k0_t1_loop (hostCount a3 (ix1 b))).trips))
    = pairTotal (boxOf x3 x4) (maskOf a3 b) := by
  rw [total_at]
  simp only [boxB_at x3 x4 x5 _ hM]
  unfold pairTotal
  rw [← listed a3 b (fun r => ∑ k, pairTerm (boxOf x3 x4) (maskOf a3 b) r k) fun r hr => Finset.sum_eq_zero fun k _ =>
    if_neg fun h => hr h.1]
  rw [Finset.sum_comm' (s := Finset.univ) (t := fun _ => Finset.univ) (t' := Finset.univ) (s' := fun _ => Finset.univ) (by simp)]
  simp only [Finset.sum_comm (s := (Finset.univ : Finset (Fin 8)))]
  rw [Finset.sum_comm]

include hM in
theorem pairs_count : k0_pay288 (F := Ideal) (boxN x3 x4 x5 (word (hostList a3) b) (4 * (k0_t1_loop (hostCount a3 (ix1 b))).trips)) (ix1 0)
    = pairCount (boxOf x3 x4) (maskOf a3 b) := by
  rw [count_at]
  simp only [boxN_at x3 x4 x5 _ hM]
  unfold pairCount
  rw [← listed a3 b (fun r => ∑ k, pairOne (boxOf x3 x4) (maskOf a3 b) r k) fun r hr => Finset.sum_eq_zero fun k _ =>
    if_neg fun h => hr h.1]
  rw [Finset.sum_comm' (s := Finset.univ) (t := fun _ => Finset.univ) (t' := Finset.univ) (s' := fun _ => Finset.univ) (by simp)]
  simp only [Finset.sum_comm (s := (Finset.univ : Finset (Fin 8)))]
  rw [Finset.sum_comm]

theorem pay1_at (p q r : EReal) (v : FVec Ideal S1 .f32) :
    k0_pay1 (F := Ideal) p q r v (ix3 0 0 0) = mean p q + mean r (v (ix1 0)) := by
  unfold mean
  pointwise [k0_pay1]

include hM in
/-- The first entry of the result's block is the image's loss. -/
theorem body_at (i : grid0.Coords) (hi : i 0 = b) :
    bodyOut (F := Ideal) x3 x4 x5 x6 i (hostList a3) (hostCount a3) (ix3 0 0 0)
      = groundLoss (boxOf x3 x4) (groundOf x6) (maskOf a3 b) + pairLoss (boxOf x3 x4) (maskOf a3 b) := by
  subst hi
  unfold bodyOut groundLoss pairLoss
  rw [pay1_at, gtTotal_eq x3 x4 x5 x6 _ hM, gtCount_eq x3 x4 x5 x6 _ hM]
  exact congrArg _ (congrArg₂ mean (pairs_total a3 _ x3 x4 x5 hM) (pairs_count a3 _ x3 x4 x5 hM))

end Cert.Proof.KernelIdeal

end

end
-- ==== Proof.RefVals.lean ====
module

public import proofs.«01_k».proof.Proof.Ground
public import proofs.«01_k».proof.Proof.Gen.ReferenceIdeal.Run
public import Idealize.ShloMosaic.Lib.Pointwise

@[expose] public section

set_option maxRecDepth 16384
set_option maxHeartbeats 2000000

noncomputable section

namespace Cert.Proof.ReferenceIdeal

open Cert.ReferenceIdeal Cert.ReferenceIdeal.Gen Cert.ReferenceIdeal.Value
open Idealize.ShloMosaic Idealize.ShloMosaic.TcCoe

/-! ## The reference's named values at an index -/

variable (V0 : Valuation τ sig (Elt Ideal))

/-- The four arguments. -/
def offs : Vec Ideal S4x3072x4 .f32 := V0 (Proc.devRef .tc main_arg0)
def grounds : Vec Ideal S4x32x4 .f32 := V0 (Proc.devRef .tc main_arg1)
def priors : Vec Ideal S3072x4 .f32 := V0 (Proc.devRef .tc main_arg2)
def picks : Vec Ideal S4x3072x4 .i1 := V0 (Proc.devRef .tc main_arg3)

theorem offs_def : V0 (Proc.devRef .tc main_arg0) = offs V0 := rfl
theorem grounds_def : V0 (Proc.devRef .tc main_arg1) = grounds V0 := rfl
theorem priors_def : V0 (Proc.devRef .tc main_arg2) = priors V0 := rfl
theorem picks_def : V0 (Proc.devRef .tc main_arg3) = picks V0 := rfl

/-- Image `b`'s boxes, ground boxes and mask. -/
def rbox (b : Fin 4) (n : Fin 3072) : Box := decode (fun k => offs V0 (ix3 b n k)) (fun k => priors V0 (ix2 n k))
def rground (b : Fin 4) (k : ℕ) : Box where
  x1 := grounds V0 (ix3 b ⟨k % 32, Nat.mod_lt _ (by decide)⟩ 0)
  y1 := grounds V0 (ix3 b ⟨k % 32, Nat.mod_lt _ (by decide)⟩ 1)
  x2 := grounds V0 (ix3 b ⟨k % 32, Nat.mod_lt _ (by decide)⟩ 2)
  y2 := grounds V0 (ix3 b ⟨k % 32, Nat.mod_lt _ (by decide)⟩ 3)
def rmask (b : Fin 4) (n : Fin 3072) : BitVec 1 := picks V0 (ix3 b n 0)

theorem two_eq : Ideal.ofBits .f32 0x40000000#32 = ((2 : ℝ) : EReal) := by
  simp [Ideal.ofBits, Ideal.ieee]
  rw [← EReal.coe_mul]
  norm_num
theorem half_eq : Ideal.ofBits .f32 0x3F000000#32 = ((2⁻¹ : ℝ) : EReal) := by
  simp [Ideal.ofBits, Ideal.ieee]
  rw [← EReal.coe_mul]
  norm_num
theorem div_two (x : EReal) : Ideal.div x (Ideal.ofBits .f32 0x40000000#32) = x * Ideal.ofBits .f32 0x3F000000#32 := by
  rw [two_eq, half_eq, EReal.coe_inv]
  exact if_neg (by norm_num)
theorem neg_inf : Ideal.ofBits .f32 0xFF800000#32 = ⊥ := by
  simp [Ideal.ofBits, Ideal.ieee]

theorem side_max (lo hi lo' hi' : EReal) : max 0 (min hi hi' - max lo lo') = side lo hi lo' hi' := max_comm _ _

theorem v1_at (b : Fin 4) (n : Fin 3072) : (show Vec Ideal S4x3072 .i1 from res_main_v1 V0) (ix2 b n) = rmask V0 b n := by
  pointwise [res_main_v1, picks_def, rmask]

theorem v27_at0 (b : Fin 4) (n : Fin 3072) : (show Vec Ideal S4x3072x4 .f32 from res_main_v27 V0) (ix3 b n 0) = (rbox V0 b n).x1 := by
  pointwise [res_main_v27, res_main_v20, res_main_v12, offs_def, priors_def, rbox, decode, div_two]
theorem v27_at1 (b : Fin 4) (n : Fin 3072) : (show Vec Ideal S4x3072x4 .f32 from res_main_v27 V0) (ix3 b n 1) = (rbox V0 b n).y1 := by
  pointwise [res_main_v27, res_main_v20, res_main_v12, offs_def, priors_def, rbox, decode, div_two]
theorem v27_at2 (b : Fin 4) (n : Fin 3072) : (show Vec Ideal S4x3072x4 .f32 from res_main_v27 V0) (ix3 b n 2) = (rbox V0 b n).x2 := by
  pointwise [res_main_v27, res_main_v20, res_main_v12, offs_def, priors_def, rbox, decode, div_two]
theorem v27_at3 (b : Fin 4) (n : Fin 3072) : (show Vec Ideal S4x3072x4 .f32 from res_main_v27 V0) (ix3 b n 3) = (rbox V0 b n).y2 := by
  pointwise [res_main_v27, res_main_v20, res_main_v12, offs_def, priors_def, rbox, decode, div_two]

theorem bit_value (a : BitVec 1) : (FloatOps.uitofp .f32 a : Ideal .f32) = if a = 1#1 then (1 : EReal) else 0 := by
  rcases BitVec.eq_zero_or_eq_one a with rfl | rfl <;> simp [FloatOps.uitofp]

/-- The ground boxes by number. -/
theorem rground_of (b : Fin 4) (k : Fin 32) : rground V0 b k.val
    = ⟨grounds V0 (ix3 b k 0), grounds V0 (ix3 b k 1), grounds V0 (ix3 b k 2), grounds V0 (ix3 b k 3)⟩ := by
  unfold rground
  simp only [Nat.mod_eq_of_lt k.isLt, Fin.eta]

theorem v48_at (b : Fin 4) (n : Fin 3072) (k : Fin 32) :
    (show Vec Ideal S4x3072x32 .f32 from res_main_v48 V0) (ix3 b n k) = meet (rbox V0 b n) (rground V0 b k.val) := by
  rw [rground_of]
  unfold meet
  pointwise [res_main_v48, res_main_v43, id_eq, v27_at0, v27_at1, v27_at2, v27_at3, grounds_def, side_max]

theorem v81_at (b : Fin 4) (n : Fin 3072) (k : Fin 32) :
    (show Vec Ideal S4x3072x32 .f32 from res_main_v81 V0) (ix3 b n k) = ovl (rbox V0 b) (rground V0 b) (rmask V0 b) n k.val := by
  unfold ovl mk
  rw [iou_comm]
  unfold iou area
  rw [rground_of]
  dsimp only
  pointwise [res_main_v81, id_eq, v48_at, v27_at0, v27_at1, v27_at2, v27_at3, v1_at, grounds_def, bit_value]
  rw [rground_of]

/-- The greatest of each row of 32, and the first place that has it. -/
def maxRow (v : FVec Ideal S4x3072x32 .f32) : FVec Ideal S4x3072 .f32 :=
  Host.reduce (FloatOps.maximumf (F := Ideal) (φ := .f32)) v (constant (F := Ideal) S_ .f32 0xFF800000#32) reducesTo_S4x3072x32_S4x3072_d2 h_S_
def firstRow (v : FVec Ideal S4x3072x32 .f32) : S4x3072x32.Idx → BitVec 32 :=
  select (cmpf .oeq v (broadcastInDim S4x3072x32 ![0, 1, 2] bcast_S4x3072x1_S4x3072x32_0_1_2 (broadcastInDim S4x3072x1 ![0, 1] bcast_S4x3072_S4x3072x1_0_1 (maxRow v)))) (broadcastInDim S4x3072x32 ![1, 2] bcast_S3072x32_S4x3072x32_1_2 (broadcastInDim S3072x32 ![0, 1] bcast_S1x32_S3072x32_0_1 (broadcastInDim S1x32 ![1] bcast_S32_S1x32_1 (iotaInDim S32 32 0)))) (broadcastInDim S4x3072x32 ![1, 2] bcast_S3072x32_S4x3072x32_1_2 (broadcastInDim S3072x32 ![] bcast_S_S3072x32 (id (constantI S_ 32 32#32))))
def argRow (v : S4x3072x32.Idx → BitVec 32) : S4x3072.Idx → BitVec 32 :=
  Host.reduce IntOp.minsi v (constantI S_ 32 2147483647#32) reducesTo_S4x3072x32_S4x3072_d2 h_S_

theorem maxRow_at (v : FVec Ideal S4x3072x32 .f32) (b : Fin 4) (n : Fin 3072) (f : ℕ → EReal) (hf : ∀ k : Fin 32, v (ix3 b n k) = f k.val) :
    maxRow v (ix2 b n) = topOf f := by
  unfold topOf
  simp only [← hf]
  pointwise [maxRow, neg_inf]

theorem firstRow_at (v : FVec Ideal S4x3072x32 .f32) (b : Fin 4) (n : Fin 3072) (k : Fin 32) :
    firstRow v (ix3 b n k) = if v (ix3 b n k) = maxRow v (ix2 b n) then BitVec.ofNat 32 k.val else 32#32 := by
  generalize e : maxRow v = w
  pointwise [firstRow, e, id_eq]

theorem argRow_at (v : S4x3072x32.Idx → BitVec 32) (b : Fin 4) (n : Fin 3072) :
    argRow v (ix2 b n) = Finset.univ.fold IntOp.minsi 2147483647#32 fun k : Fin 32 => v (ix3 b n k) := by
  pointwise [argRow]

theorem arg_at (v : FVec Ideal S4x3072x32 .f32) (b : Fin 4) (n : Fin 3072) (f : ℕ → EReal) (hf : ∀ k : Fin 32, v (ix3 b n k) = f k.val) :
    argRow (firstRow v) (ix2 b n) = argOf f := by
  unfold argOf
  simp only [argRow_at, firstRow_at, maxRow_at v b n f hf, hf]

set_option maxHeartbeats 200000 in
theorem v96_eq : res_main_v96 V0 = select (cmpi .eq (broadcastInDim S4x3072x32 ![0, 1, 2] bcast_S1x1x32_S4x3072x32_0_1_2 (broadcastInDim S1x1x32 ![1, 2] bcast_S1x32_S1x1x32_1_2 (broadcastInDim S1x32 ![1] bcast_S32_S1x32_1 (iotaInDim S32 32 0)))) (broadcastInDim S4x3072x32 ![0, 1, 2] bcast_S4x3072x1_S4x3072x32_0_1_2 (broadcastInDim S4x3072x1 ![0, 1] bcast_S4x3072_S4x3072x1_0_1 (argRow (firstRow (res_main_v81 V0)))))) (broadcastInDim S4x3072x32 ![1, 2] bcast_S3072x32_S4x3072x32_1_2 (broadcastInDim S3072x32 ![] bcast_S_S3072x32 (id (constant (F := Ideal) S_ .f32 0x00000000#32)))) (res_main_v81 V0) := rfl

theorem v96_at (b : Fin 4) (n : Fin 3072) (k : Fin 32) :
    (show Vec Ideal S4x3072x32 .f32 from res_main_v96 V0) (ix3 b n k) = ovl2 (rbox V0 b) (rground V0 b) (rmask V0 b) n k.val := by
  unfold ovl2 without
  rw [← arg_at (res_main_v81 V0) b n _ (v81_at V0 b n)]
  generalize e : argRow (firstRow (res_main_v81 V0)) = w
  dsimp only
  rw [v96_eq, e]
  pointwise [id_eq, v81_at, KernelIdeal.select_eq]

set_option maxHeartbeats 200000 in
theorem v104_at (b : Fin 4) (n : Fin 3072) :
    (show Vec Ideal S4x3072 .i32 from res_main_v104 V0) (ix2 b n) = best (rbox V0 b) (rground V0 b) (rmask V0 b) n :=
  arg_at (res_main_v96 V0) b n _ (v96_at V0 b n)

/-- A row of the gathered ground boxes: the start word read signed and clamped. -/
theorem gather_at (x : Vec Ideal S4x32x4 .f32) (w : S4x3072x1.Idx → BitVec 32) (b : Fin 4) (n : Fin 3072) (k : Fin 4) :
    Host.gather gather_S4x32x4_S4x3072x1_S4x3072x4_2_1_0_0_1_2_114 x w (ix3 b n k)
      = x (ix3 b ⟨min (w (ix3 b n 0)).toInt.toNat 31, by omega⟩ k) := by
  unfold Host.gather
  congr 1
  funext a
  refine Fin.ext ?_
  show gather_S4x32x4_S4x3072x1_S4x3072x4_2_1_0_0_1_2_114.start (ix3 b n k) w a
    + gather_S4x32x4_S4x3072x1_S4x3072x4_2_1_0_0_1_2_114.batchCoord (ix3 b n k) a
    + gather_S4x32x4_S4x3072x1_S4x3072x4_2_1_0_0_1_2_114.offCoord (ix3 b n k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, _⟩ : Fin 3) ∈ gather_S4x32x4_S4x3072x1_S4x3072x4_2_1_0_0_1_2_114.operandBatchingDims from List.mem_singleton.mpr rfl)]
    rfl
  | ⟨1, _⟩ =>
    rw [GatherDims.batchCoord_eq_zero _ _ _ (fun h => by cases List.mem_singleton.mp h),
      GatherDims.offCoord_eq_zero _ _ _ (fun h => ((GatherDims.mem_sKept _ _).mp h).1 (List.mem_singleton.mpr rfl))]
    simp only [Nat.add_zero]
    unfold GatherDims.start
    rw [dif_pos (show (⟨1, _⟩ : Fin 3) ∈ gather_S4x32x4_S4x3072x1_S4x3072x4_2_1_0_0_1_2_114.startIndexMap from List.mem_singleton.mpr rfl)]
    have e : gather_S4x32x4_S4x3072x1_S4x3072x4_2_1_0_0_1_2_114.siIdx (ix3 b n k)
        ⟨List.idxOf (1 : Fin 3) gather_S4x32x4_S4x3072x1_S4x3072x4_2_1_0_0_1_2_114.startIndexMap,
          List.idxOf_lt_length_iff.2 (List.mem_singleton.mpr rfl)⟩ = ix3 b n 0 := by
      funext a
      refine Fin.ext ?_
      match a with
      | ⟨0, _⟩ => rfl
      | ⟨1, _⟩ => rfl
      | ⟨2, _⟩ => rfl
    exact congrArg (fun z => min (w z).toInt.toNat 31) e
  | ⟨2, _⟩ =>
    rw [GatherDims.batchCoord_eq_zero _ _ _ (fun h => by cases List.mem_singleton.mp h)]
    unfold GatherDims.start
    rw [dif_neg (fun h => by cases List.mem_singleton.mp h)]
    simp only [Nat.zero_add]
    rfl

theorem best_word (B : Fin 3072 → Box) (G : ℕ → Box) (M : Fin 3072 → BitVec 1) (n : Fin 3072) :
    ∃ k : Fin 32, best B G M n = BitVec.ofNat 32 k.val := by
  obtain ⟨k, hk, e, -⟩ := best_first B G M n
  exact ⟨⟨k, hk⟩, e⟩

theorem wrap_word : ∀ k : Fin 32, min (Scalar.select (IntOp.cmpi .slt (BitVec.ofNat 32 k.val) 0#32) (IntOp.addi (BitVec.ofNat 32 k.val) 32#32)
    (BitVec.ofNat 32 k.val)).toInt.toNat 31 = (BitVec.ofNat 32 k.val).toNat % 32 := by
  decide

theorem v111_at (b : Fin 4) (n : Fin 3072) (k : Fin 4) : (show Vec Ideal S4x3072x4 .f32 from res_main_v111 V0) (ix3 b n k)
    = grounds V0 (ix3 b ⟨(best (rbox V0 b) (rground V0 b) (rmask V0 b) n).toNat % 32, Nat.mod_lt _ (by decide)⟩ k) := by
  refine (gather_at _ _ b n k).trans (congrArg (fun r => grounds V0 (ix3 b r k)) (Fin.ext ?_))
  dsimp only
  pointwise [v104_at]
  obtain ⟨w, hw⟩ := best_word (rbox V0 b) (rground V0 b) (rmask V0 b) n
  rw [hw]
  exact wrap_word w

theorem v136_at (b : Fin 4) (n : Fin 3072) : (show Vec Ideal S4x3072 .f32 from res_main_v136 V0) (ix2 b n)
    = share (rbox V0 b) (rground V0 b) (rmask V0 b) n := by
  unfold share
  rw [meet_comm]
  generalize hw : (best (rbox V0 b) (rground V0 b) (rmask V0 b) n) = w
  unfold meet area rground
  pointwise [res_main_v136, res_main_v119, id_eq, v27_at0, v27_at1, v27_at2, v27_at3, v111_at, hw, side_max]

/-- One condition as a bit and as a number. -/
theorem andi_bit (p : Prop) [Decidable p] (a : BitVec 1) (d : Decidable (p ∧ a = 1#1)) :
    IntOp.andi (BitVec.ofBool (decide p)) a = if p ∧ a = 1#1 then 1#1 else 0#1 := by
  rcases BitVec.eq_zero_or_eq_one a with rfl | rfl <;> by_cases h : p <;> simp [IntOp.andi, h]
theorem bit_number (p : Prop) [Decidable p] : (FloatOps.uitofp .f32 (if p then 1#1 else 0#1) : Ideal .f32) = if p then (1 : EReal) else 0 := by
  rw [bit_value]
  by_cases h : p <;> simp [h]

set_option maxHeartbeats 200000 in
theorem v156_eq : res_main_v156 V0 = andi (cmpf .ogt (maxRow (res_main_v96 V0)) (broadcastInDim S4x3072 ![] bcast_S_S4x3072 (constant (F := Ideal) S_ .f32 0x00000000#32))) (res_main_v1 V0) := rfl

theorem v156_at (b : Fin 4) (n : Fin 3072) : (show Vec Ideal S4x3072 .i1 from res_main_v156 V0) (ix2 b n)
    = if counts (rbox V0 b) (rground V0 b) (rmask V0 b) n then 1#1 else 0#1 := by
  refine Eq.trans ?_ (andi_bit _ _ _)
  rw [← maxRow_at (res_main_v96 V0) b n _ (v96_at V0 b n)]
  generalize e : maxRow (res_main_v96 V0) = w
  dsimp only
  rw [v156_eq, e]
  pointwise [v1_at]

theorem v158_at (b : Fin 4) : (show Vec Ideal S4 .f32 from res_main_v158 V0) (ix1 b)
    = groundCount (rbox V0 b) (rground V0 b) (rmask V0 b) := by
  unfold groundCount
  pointwise [res_main_v158, v156_at, bit_number]

end Cert.Proof.ReferenceIdeal

end

end
-- ==== Proof.RefPairs.lean ====
module

public import proofs.«01_k».proof.Proof.RefVals
public import Idealize.ShloMosaic.Lib.Pipeline.Value

@[expose] public section

set_option maxRecDepth 16384
set_option maxHeartbeats 400000

noncomputable section

namespace Cert.Proof.ReferenceIdeal

open Cert.ReferenceIdeal Cert.ReferenceIdeal.Gen Cert.ReferenceIdeal.Value
open Idealize.ShloMosaic Idealize.ShloMosaic.TcCoe

/-! ## The reference's pair values  -/

variable (V0 : Valuation τ sig (Elt Ideal))

/-- A cast that drops a last axis of one element. -/
theorem drop_last {p q r : ℕ} {α : Type} (x : (⟨4, ![p, q, r, 1]⟩ : Shape).Idx → α)
    (h : (⟨4, ![p, q, r, 1]⟩ : Shape).ShapeCasts ⟨3, ![p, q, r]⟩) (i : Fin p) (j : Fin q) (k : Fin r) :
    shapeCast ⟨3, ![p, q, r]⟩ x h (ix3 i j k) = x (ix4 i j k 0) := by
  refine shapeCast_apply x h _ _ ?_
  rw [Shape.rowMajor_val_four, Shape.rowMajor_val_three]
  show ((i.val * q + j.val) * r + k.val) * 1 + 0 = (i.val * q + j.val) * r + k.val
  omega

theorem side0_at (v : FVec Ideal S4x3072x3072x2 .f32) (b : Fin 4) (r k : Fin 3072) :
    shapeCast S4x3072x3072 (extractStridedSlice S4x3072x3072x1 ![0, 0, 0, 0] v slices_S4x3072x3072x2_S4x3072x3072x1_0_0_0_0) shapeCasts_S4x3072x3072x1_S4x3072x3072 (ix3 b r k)
      = v (ix4 b r k 0) := by
  refine (drop_last _ _ b r k).trans ?_
  pointwise []

theorem side1_at (v : FVec Ideal S4x3072x3072x2 .f32) (b : Fin 4) (r k : Fin 3072) :
    shapeCast S4x3072x3072 (extractStridedSlice S4x3072x3072x1 ![0, 0, 0, 1] v slices_S4x3072x3072x2_S4x3072x3072x1_0_0_0_1) shapeCasts_S4x3072x3072x1_S4x3072x3072 (ix3 b r k)
      = v (ix4 b r k 1) := by
  refine (drop_last _ _ b r k).trans ?_
  pointwise []

theorem v182_at0 (b : Fin 4) (r k : Fin 3072) : (show FVec Ideal S4x3072x3072x2 .f32 from res_main_v182 V0) (ix4 b r k 0)
    = side (rbox V0 b r).x1 (rbox V0 b r).x2 (rbox V0 b k).x1 (rbox V0 b k).x2 := by
  pointwise [res_main_v182, id_eq, v27_at0, v27_at1, v27_at2, v27_at3, side_max]
theorem v182_at1 (b : Fin 4) (r k : Fin 3072) : (show FVec Ideal S4x3072x3072x2 .f32 from res_main_v182 V0) (ix4 b r k 1)
    = side (rbox V0 b r).y1 (rbox V0 b r).y2 (rbox V0 b k).y1 (rbox V0 b k).y2 := by
  pointwise [res_main_v182, id_eq, v27_at0, v27_at1, v27_at2, v27_at3, side_max]

theorem v187_eq : res_main_v187 V0 = mulf (shapeCast S4x3072x3072 (extractStridedSlice S4x3072x3072x1 ![0, 0, 0, 0] (res_main_v182 V0) slices_S4x3072x3072x2_S4x3072x3072x1_0_0_0_0) shapeCasts_S4x3072x3072x1_S4x3072x3072) (shapeCast S4x3072x3072 (extractStridedSlice S4x3072x3072x1 ![0, 0, 0, 1] (res_main_v182 V0) slices_S4x3072x3072x2_S4x3072x3072x1_0_0_0_1) shapeCasts_S4x3072x3072x1_S4x3072x3072) := rfl

theorem mul_at (x y : FVec Ideal S4x3072x3072 .f32) (j : S4x3072x3072.Idx) : mulf x y j = (x j * y j : EReal) := rfl

theorem v187_at (b : Fin 4) (r k : Fin 3072) :
    (show FVec Ideal S4x3072x3072 .f32 from res_main_v187 V0) (ix3 b r k) = meet (rbox V0 b r) (rbox V0 b k) := by
  dsimp only
  rw [v187_eq, mul_at, side0_at, side1_at]
  unfold meet
  exact congrArg₂ (fun x y : EReal => x * y) (v182_at0 V0 b r k) (v182_at1 V0 b r k)

theorem v216_at (b : Fin 4) (r k : Fin 3072) :
    (show FVec Ideal S4x3072x3072 .f32 from res_main_v216 V0) (ix3 b r k) = iou (rbox V0 b r) (rbox V0 b k) := by
  unfold iou area
  pointwise [res_main_v216, v187_at, v27_at0, v27_at1, v27_at2, v27_at3]

/-- Whether two boxes form a pair that counts. -/
def paired (b : Fin 4) (r k : Fin 3072) : Prop := rmask V0 b r = 1#1 ∧ rmask V0 b k = 1#1 ∧ 0 < iou (rbox V0 b r) (rbox V0 b k)
instance (b : Fin 4) (r k : Fin 3072) : Decidable (paired V0 b r k) := inferInstanceAs (Decidable (_ ∧ _ ∧ _))

theorem andi_bits (a c : BitVec 1) (p : Prop) [Decidable p] :
    IntOp.andi (IntOp.andi a c) (BitVec.ofBool (decide p)) = if a = 1#1 ∧ c = 1#1 ∧ p then 1#1 else 0#1 := by
  rcases BitVec.eq_zero_or_eq_one a with rfl | rfl <;> rcases BitVec.eq_zero_or_eq_one c with rfl | rfl <;> by_cases h : p <;> simp [IntOp.andi, h]

theorem v224_at (b : Fin 4) (r k : Fin 3072) :
    (show S4x3072x3072.Idx → BitVec 1 from res_main_v224 V0) (ix3 b r k) = if paired V0 b r k then 1#1 else 0#1 := by
  refine Eq.trans ?_ (andi_bits _ _ _)
  pointwise [res_main_v224, v216_at, v1_at]

theorem v243_at (b : Fin 4) : (show FVec Ideal S4 .f32 from res_main_v243 V0) (ix1 b) = pairCount (rbox V0 b) (rmask V0 b) := by
  show _ = ∑ r, ∑ k, if paired V0 b r k then (1 : EReal) else 0
  pointwise [res_main_v243, v224_at, bit_number]

end Cert.Proof.ReferenceIdeal

end

end
-- ==== Proof.RefLoss.lean ====
module

public import proofs.«01_k».proof.Proof.RefPairs

@[expose] public section

set_option maxRecDepth 16384
set_option maxHeartbeats 400000

noncomputable section

namespace Cert.Proof.ReferenceIdeal

open Cert.ReferenceIdeal Cert.ReferenceIdeal.Gen Cert.ReferenceIdeal.Value
open Idealize.ShloMosaic Idealize.ShloMosaic.TcCoe

/-! ## The reference's result -/

variable (V0 : Valuation τ sig (Elt Ideal))

/-- The terms of the ground part, of the box part, and a mean over the counted terms. -/
def groundTerms : FVec Ideal S4x3072 .f32 :=
  select (res_main_v156 V0) (select (cmpf .ogt (res_main_v136 V0) (broadcastInDim S4x3072 ![] bcast_S_S4x3072 (constant S_ .f32 0x3F666666#32))) (subf (Host.divf (subf (res_main_v136 V0) (broadcastInDim S4x3072 ![] bcast_S_S4x3072 (constant S_ .f32 0x3F666666#32))) (broadcastInDim S4x3072 ![] bcast_S_S4x3072 (constant S_ .f32 0x3DCCCCCD#32))) (broadcastInDim S4x3072 ![] bcast_S_S4x3072 (constant S_ .f32 0xC0135D8E#32))) (Host.negf (Host.log (maximumf (broadcastInDim S4x3072 ![] bcast_S_S4x3072 (id (constant S_ .f32 0x2EDBE6FF#32))) (subf (broadcastInDim S4x3072 ![] bcast_S_S4x3072 (constant S_ .f32 0x3F800000#32)) (select (cmpf .ogt (res_main_v136 V0) (broadcastInDim S4x3072 ![] bcast_S_S4x3072 (constant S_ .f32 0x3F666666#32))) (broadcastInDim S4x3072 ![1] bcast_S3072_S4x3072_1 (broadcastInDim S3072 ![] bcast_S_S3072 (id (constant S_ .f32 0x00000000#32)))) (res_main_v136 V0))))))) (broadcastInDim S4x3072 ![1] bcast_S3072_S4x3072_1 (broadcastInDim S3072 ![] bcast_S_S3072 (id (constant S_ .f32 0x00000000#32))))
def pairTerms : FVec Ideal S4x3072x3072 .f32 :=
  select (res_main_v224 V0) (select (cmpf .ogt (res_main_v216 V0) (broadcastInDim S4x3072x3072 ![] bcast_S_S4x3072x3072 (constant S_ .f32 0x00000000#32))) (subf (Host.divf (subf (res_main_v216 V0) (broadcastInDim S4x3072x3072 ![] bcast_S_S4x3072x3072 (constant S_ .f32 0x00000000#32))) (broadcastInDim S4x3072x3072 ![] bcast_S_S4x3072x3072 (constant S_ .f32 0x3F800000#32))) (broadcastInDim S4x3072x3072 ![] bcast_S_S4x3072x3072 (constant S_ .f32 0x00000000#32))) (Host.negf (Host.log (maximumf (broadcastInDim S4x3072x3072 ![] bcast_S_S4x3072x3072 (id (constant S_ .f32 0x2EDBE6FF#32))) (subf (broadcastInDim S4x3072x3072 ![] bcast_S_S4x3072x3072 (constant S_ .f32 0x3F800000#32)) (select (cmpf .ogt (res_main_v216 V0) (broadcastInDim S4x3072x3072 ![] bcast_S_S4x3072x3072 (constant S_ .f32 0x00000000#32))) (broadcastInDim S4x3072x3072 ![1, 2] bcast_S3072x3072_S4x3072x3072_1_2 (broadcastInDim S3072x3072 ![] bcast_S_S3072x3072 (id (constant S_ .f32 0x00000000#32)))) (res_main_v216 V0))))))) (broadcastInDim S4x3072x3072 ![1, 2] bcast_S3072x3072_S4x3072x3072_1_2 (broadcastInDim S3072x3072 ![] bcast_S_S3072x3072 (id (constant S_ .f32 0x00000000#32))))
def meanVec (t n : FVec Ideal S4 .f32) : FVec Ideal S4 .f32 :=
  select (cmpf .ogt n (broadcastInDim S4 ![] bcast_S_S4 (constant S_ .f32 0x00000000#32))) (Host.divf t (maximumf n (broadcastInDim S4 ![] bcast_S_S4 (constant S_ .f32 0x3F800000#32)))) (broadcastInDim S4 ![] bcast_S_S4 (id (constant S_ .f32 0x00000000#32)))
def loss : FVec Ideal S_ .f32 :=
  addf (Host.reduceAdd (meanVec (Host.reduceAdd (groundTerms V0) (constant S_ .f32 0x00000000#32) reducesTo_S4x3072_S4_d1 h_S_) (res_main_v158 V0)) (constant S_ .f32 0x00000000#32) reducesTo_S4_S_d0 h_S_)
    (Host.reduceAdd (meanVec (Host.reduceAdd (pairTerms V0) (constant S_ .f32 0x00000000#32) reducesTo_S4x3072x3072_S4_d1_2 h_S_) (res_main_v243 V0)) (constant S_ .f32 0x00000000#32) reducesTo_S4_S_d0 h_S_)

theorem select_if {α : Type} (p : Prop) [Decidable p] (x y : α) : Scalar.select (if p then 1#1 else 0#1) x y = if p then x else y := by
  by_cases h : p <;> simp [Scalar.select, h]

theorem groundTerms_at (b : Fin 4) (n : Fin 3072) : groundTerms V0 (ix2 b n)
    = if counts (rbox V0 b) (rground V0 b) (rmask V0 b) n then smooth (share (rbox V0 b) (rground V0 b) (rmask V0 b) n) else 0 := by
  unfold smooth
  rw [max_comm]
  pointwise [groundTerms, id_eq, v136_at, v156_at, select_if]

theorem div_one' (x : EReal) : Ideal.div x 1 = x := by
  unfold Ideal.div
  rw [if_neg one_ne_zero, inv_one, mul_one]

theorem pairTerms_at (b : Fin 4) (r k : Fin 3072) : pairTerms V0 (ix3 b r k) = pairTerm (rbox V0 b) (rmask V0 b) r k := by
  have e : pairTerm (rbox V0 b) (rmask V0 b) r k = if paired V0 b r k then iou (rbox V0 b r) (rbox V0 b k) else 0 := by
    unfold pairTerm
    by_cases h : rmask V0 b r = 1#1 ∧ rmask V0 b k = 1#1
    · rw [if_pos h]
      by_cases h' : 0 < iou (rbox V0 b r) (rbox V0 b k)
      · rw [if_pos (show paired V0 b r k from ⟨h.1, h.2, h'⟩), max_eq_left h'.le]
      · rw [if_neg fun q : paired V0 b r k => h' q.2.2, max_eq_right (not_lt.1 h')]
    · rw [if_neg h, if_neg fun q : paired V0 b r k => h ⟨q.1, q.2.1⟩]
  rw [e]
  pointwise [pairTerms, id_eq, v216_at, v224_at, select_if]
  by_cases h : paired V0 b r k
  · rw [if_pos h, if_pos h, if_pos h.2.2, div_one']
  · rw [if_neg h, if_neg h]

theorem meanVec_at (t n : FVec Ideal S4 .f32) (b : Fin 4) : meanVec t n (ix1 b) = mean (t (ix1 b)) (n (ix1 b)) := by
  unfold mean
  pointwise [meanVec, id_eq]

theorem groundSum_at (v : FVec Ideal S4x3072 .f32) (b : Fin 4) :
    Host.reduceAdd v (constant S_ .f32 0x00000000#32) reducesTo_S4x3072_S4_d1 h_S_ (ix1 b) = ∑ n : Fin 3072, v (ix2 b n) := by
  pointwise []

theorem pairSum_at (v : FVec Ideal S4x3072x3072 .f32) (b : Fin 4) :
    Host.reduceAdd v (constant S_ .f32 0x00000000#32) reducesTo_S4x3072x3072_S4_d1_2 h_S_ (ix1 b) = ∑ r : Fin 3072, ∑ k : Fin 3072, v (ix3 b r k) := by
  pointwise []

theorem imageSum_at (v : FVec Ideal S4 .f32) :
    Host.reduceAdd v (constant S_ .f32 0x00000000#32) reducesTo_S4_S_d0 h_S_ ix0 = ∑ b : Fin 4, v (ix1 b) := by
  pointwise []

/-- The reference's result: the images' ground parts and box parts. -/
theorem loss_at : loss V0 ix0 = ∑ b : Fin 4, (groundLoss (rbox V0 b) (rground V0 b) (rmask V0 b) + pairLoss (rbox V0 b) (rmask V0 b)) := by
  rw [Finset.sum_add_distrib]
  refine congrArg₂ (fun x y : EReal => x + y) ((imageSum_at _).trans (Finset.sum_congr rfl fun b _ => ?_))
    ((imageSum_at _).trans (Finset.sum_congr rfl fun b _ => ?_))
  · rw [meanVec_at, groundSum_at]
    unfold groundLoss groundTotal
    simp only [groundTerms_at]
    exact congrArg _ (v158_at V0 b)
  · rw [meanVec_at, pairSum_at]
    unfold pairLoss pairTotal
    simp only [pairTerms_at]
    exact congrArg _ (v243_at V0 b)

end Cert.Proof.ReferenceIdeal

end

end
-- ==== Proof.Tail.lean ====
module

public import proofs.«01_k».proof.Proof.RunIdeal
public import proofs.«01_k».proof.Proof.Image
public import proofs.«01_k».proof.Proof.RefLoss
public import Idealize.ShloMosaic.Lib.Pipeline.ValueKit
public import Idealize.ShloMosaic.Lib.Pointwise

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.ShloMosaic (ix0 ix1 ix2 ix3)

variable (m : (ℓ : Loc nD τ sig) → Buf (Elt Ideal) ℓ) (c : Dev nD)

/-! ## The arguments as the launch finds them -/

/-- The offsets. -/
def argOffs : FVec Ideal S4x3072x4 .f32 := m ((c : Thread nD τ).loc main_arg0)
/-- The ground boxes. -/
def argGrounds : FVec Ideal S4x32x4 .f32 := m ((c : Thread nD τ).loc main_arg1)
/-- The priors. -/
def argPriors : FVec Ideal S3072x4 .f32 := m ((c : Thread nD τ).loc main_arg2)
/-- The mask. -/
def argPicks : S4x3072x4.Idx → BitVec 1 := m ((c : Thread nD τ).loc main_arg3)

/-! ## The arrays the host operations before the kernel compute -/

theorem V_offs : V m c main_call0_v3 = transpose S4x4x3072 [0, 2, 1] (argOffs m c) transposes_S4x3072x4_S4x4x3072_0_2_1 := by
  unfold V V0
  simp only [List.flatten_cons, List.flatten_nil, List.append_nil, hostOps0]
  after_results_simp
  rfl

theorem V_priors : V m c main_call0_v4 = transpose S4x3072 [1, 0] (argPriors m c) transposes_S3072x4_S4x3072_1_0 := by
  unfold V V0
  simp only [List.flatten_cons, List.flatten_nil, List.append_nil, hostOps0]
  after_results_simp
  rfl

theorem V_picks : V m c main_call0_v5 = shapeCast S4x1x3072 (uitofp (F := Ideal) .f32 (hostMask (argPicks m c))) shapeCasts_S4x3072_S4x1x3072 := by
  unfold V V0
  simp only [List.flatten_cons, List.flatten_nil, List.append_nil, hostOps0]
  after_results_simp
  rfl

/-! ## The blocks of a grid point, in terms of the arguments -/

theorem index_2 : ∀ t : Fin cfg0.N, win0_2.index t = ![(grid0.coords t 0).val, 0, 0] := by decide +kernel
theorem index_3 : ∀ t : Fin cfg0.N, win0_3.index t = ![0, 0] := by decide +kernel
theorem index_4 : ∀ t : Fin cfg0.N, win0_4.index t = ![(grid0.coords t 0).val, 0, 0] := by decide +kernel
theorem index_5 : ∀ t : Fin cfg0.N, win0_5.index t = ![(grid0.coords t 0).val, 0, 0] := by decide +kernel
theorem index_6 : ∀ t : Fin cfg0.N, win0_6.index t = ![(grid0.coords t 0).val, 0, 0] := by decide +kernel
theorem index_0 : ∀ t : Fin cfg0.N, win0_0.index t = ![0, 0] := by decide +kernel
theorem index_1 : ∀ t : Fin cfg0.N, win0_1.index t = ![0] := by decide +kernel

/-- The image of a grid point. -/
def imageOf (t : Fin cfg0.N) : Fin 4 := grid0.coords t 0

theorem blk0_eq (t : Fin cfg0.N) : iblk m c 0 t = hostList (argPicks m c) := by
  funext y
  refine Eq.trans ?_ (congrFun (V_list m c) y)
  blk_ext [iblk, index_0 t]

theorem blk1_eq (t : Fin cfg0.N) : iblk m c 1 t = hostCount (argPicks m c) := by
  funext y
  refine Eq.trans ?_ (congrFun (V_count m c) y)
  blk_ext [iblk, index_1 t]

theorem blk2_at (t : Fin cfg0.N) (k : Fin 4) (n : Fin 3072) :
    (show FVec Ideal S1x4x3072 .f32 from iblk m c 2 t) (ix3 0 k n) = argOffs m c (ix3 (imageOf t) n k) := by
  have e : (show FVec Ideal S4x4x3072 .f32 from V m c main_call0_v3) (ix3 (imageOf t) k n) = argOffs m c (ix3 (imageOf t) n k) := by
    rw [V_offs]
    dsimp only
    generalize argOffs m c = x
    pointwise []
  refine Eq.trans ?_ e
  dsimp only
  unfold imageOf
  blk_ext [iblk, index_2 t]

theorem blk3_at (t : Fin cfg0.N) (k : Fin 4) (n : Fin 3072) :
    (show FVec Ideal S4x3072 .f32 from iblk m c 3 t) (ix2 k n) = argPriors m c (ix2 n k) := by
  have e : (show FVec Ideal S4x3072 .f32 from V m c main_call0_v4) (ix2 k n) = argPriors m c (ix2 n k) := by
    rw [V_priors]
    dsimp only
    generalize argPriors m c = x
    pointwise []
  refine Eq.trans ?_ e
  dsimp only
  blk_ext [iblk, index_3 t]

theorem blk4_at (t : Fin cfg0.N) (n : Fin 3072) :
    (show FVec Ideal S1x1x3072 .f32 from iblk m c 4 t) (ix3 0 0 n) = mk (maskOf (argPicks m c) (imageOf t)) n := by
  have e : (show FVec Ideal S4x1x3072 .f32 from V m c main_call0_v5) (ix3 (imageOf t) 0 n) = mk (maskOf (argPicks m c) (imageOf t)) n := by
    rw [V_picks]
    dsimp only
    generalize argPicks m c = x
    unfold hostMask maskOf mk
    pointwise [Cert.Proof.ReferenceIdeal.bit_value]
  refine Eq.trans ?_ e
  dsimp only
  unfold imageOf
  blk_ext [iblk, index_4 t]

theorem blk5_at (t : Fin cfg0.N) (k : Fin 32) (j : Fin 4) :
    (show FVec Ideal S1x32x4 .f32 from iblk m c 5 t) (ix3 0 k j) = argGrounds m c (ix3 (imageOf t) k j) := by
  have e : (show FVec Ideal S4x32x4 .f32 from V m c main_arg1) (ix3 (imageOf t) k j) = argGrounds m c (ix3 (imageOf t) k j) := by
    rw [V_main_arg1]; rfl
  refine Eq.trans ?_ e
  dsimp only
  unfold imageOf
  blk_ext [iblk, index_5 t]

/-! ## The result array -/

theorem apart : ∀ t t' : Fin cfg0.N, (cfg0.win 6).flush t = true → (cfg0.win 6).flush t' = true → t ≠ t' →
    Disjoint ((cfg0.win 6).blk t).view.set ((cfg0.win 6).blk t').view.set :=
  Pipeline.Window.hdisj_of_index_inj (cfg0.win 6) (by decide +kernel)

theorem point_of : ∀ b : Fin 4, ∃ t : Fin cfg0.N, imageOf t = b ∧ (cfg0.win 6).flush t = true := by decide +kernel

theorem arr_at (b : Fin 4) : ∃ t : Fin cfg0.N, imageOf t = b
    ∧ (show FVec Ideal S4x1x128 .f32 from (dats m 0 c).arrAt 6 cfg0.N) (ix3 b 0 0) = outAt m c t (ix3 0 0 0) := by
  obtain ⟨t, ht, hf⟩ := point_of b
  refine ⟨t, ht, ?_⟩
  have h := (dats m 0 c).arrAt_emb_eq_flushed 6 apart t hf (ix3 0 0 0 : S1x1x128.Idx)
  rw [Pipeline.Dat.flushed_apply, after_6] at h
  subst ht
  refine Eq.trans ?_ h
  dsimp only
  unfold imageOf
  blk_ext [index_6 t]

/-- What the host operations after the kernel make of the result array. -/
def tailOf (x : FVec Ideal S4x1x128 .f32) : FVec Ideal S_ .f32 :=
  Host.reduceAdd (F := Ideal) (shapeCast S4 (extractStridedSlice S4x1x1 ![0, 0, 0] x slices_S4x1x128_S4x1x1_0_0_0) shapeCasts_S4x1x1_S4)
    (constant (F := Ideal) S_ .f32 0x00000000#32) reducesTo_S4_S_d0 h_S_

theorem tailOf_at (x : FVec Ideal S4x1x128 .f32) : tailOf x ix0 = ∑ b : Fin 4, x (ix3 b 0 0) := by
  have e : ∀ b : Fin 4, (shapeCast S4 (extractStridedSlice S4x1x1 ![0, 0, 0] x slices_S4x1x128_S4x1x1_0_0_0) shapeCasts_S4x1x1_S4) (ix1 b) = x (ix3 b 0 0) := by
    intro b
    pointwise []
  unfold tailOf
  generalize shapeCast S4 (extractStridedSlice S4x1x1 ![0, 0, 0] x slices_S4x1x128_S4x1x1_0_0_0) shapeCasts_S4x1x1_S4 = y at e ⊢
  simp only [← e]
  pointwise []

theorem arrays_apart : Function.Injective (Pipeline.arrRef spec0) := by decide +kernel

/-- What the result buffer holds at the end. -/
def result : Buf (Elt Ideal) ((c : Thread nD τ).loc main_v0) := Pipeline.afterTail₀ cfgs (dats m) 0 (V0 m) [hostOps1] c main_v0

theorem result_eq : result m c = tailOf ((dats m 0 c).arrAt 6 cfg0.N) := by
  have e := Pipeline.withArrays_arr spec0 arrays_apart c (V0 m c) (fun w => (dats m 0 c).arrAt w cfg0.N) 6
  unfold result Pipeline.afterTail₀
  change StableHlo.after [hostOps1].flatten (Pipeline.withArrays spec0 c (V0 m c) (fun w => (dats m 0 c).arrAt w cfg0.N)) (Proc.devRef .tc main_v0) = _
  generalize Pipeline.withArrays spec0 c (V0 m c) (fun w => (dats m 0 c).arrAt w cfg0.N) = X at e ⊢
  simp only [List.flatten_cons, List.flatten_nil, List.append_nil, hostOps1]
  after_results_simp
  exact congrArg tailOf e

/-- The kernel's result: the sum of the images' losses. -/
theorem result_at : (show FVec Ideal S_ .f32 from result m c) ix0
    = ∑ b : Fin 4, (groundLoss (boxOf (fun i => argOffs m c (ix3 b (i 2) (i 1))) (fun i => argPriors m c (ix2 (i 1) (i 0))))
          (groundOf (fun i => argGrounds m c (ix3 b (i 1) (i 2)))) (maskOf (argPicks m c) b)
        + pairLoss (boxOf (fun i => argOffs m c (ix3 b (i 2) (i 1))) (fun i => argPriors m c (ix2 (i 1) (i 0)))) (maskOf (argPicks m c) b)) := by
  rw [result_eq]
  dsimp only
  rw [tailOf_at]
  refine Finset.sum_congr rfl fun b _ => ?_
  obtain ⟨t, ht, h⟩ := arr_at m c b
  refine h.trans ?_
  unfold outAt
  rw [blk0_eq, blk1_eq, body_at (argPicks m c) b (iblk m c 2 t) (iblk m c 3 t) (iblk m c 4 t) (iblk m c 5 t)
    (fun n => ht ▸ blk4_at m c t n) (grid0.coords t) ht]
  have hb : boxOf (iblk m c 2 t) (iblk m c 3 t) = boxOf (fun i => argOffs m c (ix3 b (i 2) (i 1))) (fun i => argPriors m c (ix2 (i 1) (i 0))) := by
    subst ht
    funext n
    unfold boxOf
    exact congrArg₂ decode (funext fun k => blk2_at m c t k n) (funext fun k => blk3_at m c t k n)
  have hg : groundOf (iblk m c 5 t) = groundOf (fun i => argGrounds m c (ix3 b (i 1) (i 2))) := by
    subst ht
    funext k
    unfold groundOf
    have e := fun j => blk5_at m c t ⟨k % 32, Nat.mod_lt _ (by decide)⟩ j
    dsimp only at e
    rw [e 0, e 1, e 2, e 3]
    rfl
  rw [hb, hg]

end Cert.Proof.KernelIdeal

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.Tail
public import Idealize.ShloMosaic.Adequacy
public import Idealize.ShloMosaic.Init

@[expose] public section

noncomputable section

namespace Cert.Proof

open Idealize.ShloMosaic Idealize.SL.Sem

theorem kernel_quiescent : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1⟩, h.2⟩) (Kernel.run_result m g)

theorem ideal_quiescent : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1⟩, h.2⟩) (KernelIdeal.run_result m g)

/-- The reference's program has no semaphore. -/
theorem no_sem : ∀ s : SemLoc Cert.ReferenceIdeal.sig, False := by decide

theorem reference_quiescent : Cert.quiescent_ReferenceIdeal (hReferenceIdeal := Cert.ReferenceIdeal.Gen.facts) := fun m g _ =>
  (θ_run _ _ _).mono (fun _ h => ⟨fun c => (h c).2, funext fun s => (no_sem s.2).elim⟩) (Cert.ReferenceIdeal.Value.run m g)

/-- The two programs' results from the same arguments: both are the sum of the images' losses. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : ReferenceIdeal.offs (StableHlo.launchContents m' c) = KernelIdeal.argOffs m c)
    (h1 : ReferenceIdeal.grounds (StableHlo.launchContents m' c) = KernelIdeal.argGrounds m c)
    (h2 : ReferenceIdeal.priors (StableHlo.launchContents m' c) = KernelIdeal.argPriors m c)
    (h3 : ReferenceIdeal.picks (StableHlo.launchContents m' c) = KernelIdeal.argPicks m c) :
    ReferenceIdeal.loss (StableHlo.launchContents m' c)
      = KernelIdeal.result m c := by
  funext i
  obtain rfl : i = ix0 := funext fun a => a.elim0
  refine (ReferenceIdeal.loss_at _).trans (Eq.trans ?_ (KernelIdeal.result_at m c).symm)
  unfold ReferenceIdeal.rbox ReferenceIdeal.rground ReferenceIdeal.rmask
  rw [h0, h1, h2, h3]
  rfl

/-- The reference runs to its loss. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_v254) = ReferenceIdeal.loss (StableHlo.launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  refine (θ_run _ _ _).mono (fun _ h c => ?_) (Cert.ReferenceIdeal.Value.run (F := Ideal) m g)
  unfold ReferenceIdeal.loss ReferenceIdeal.meanVec ReferenceIdeal.groundTerms ReferenceIdeal.pairTerms
  exact h c

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => KernelIdeal.result m c, ?_, ?_⟩
  · refine (θ_run _ _ _).mono (fun _ h c => ?_) (KernelIdeal.run_result m g)
    exact ⟨(h.1 c).2.2.2.2, (h.1 c).1, (h.1 c).2.1, (h.1 c).2.2.1, (h.1 c).2.2.2.1⟩
  · refine (θ_run _ _ _).mono (fun _ h c => ?_) (reference_run m' g')
    have e := same_result m m' c (hargs c).1 (hargs c).2.1 (hargs c).2.2.1 (hargs c).2.2.2
    exact ⟨(h c).1.trans e, (h c).2⟩

theorem claim : Cert.Claim :=
  ⟨Cert.Kernel.Gen.facts, Cert.KernelIdeal.Gen.facts, Cert.ReferenceIdeal.Gen.facts,
    kernel_quiescent, ideal_quiescent, reference_quiescent, trivial, algebraic⟩

end Cert.Proof

end
